-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_blocks [hPre_finite_blocks : Cert.Pre_finite_blocks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_blocks [hPre_finite_blocks : Cert.Pre_finite_blocks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_blocks [hKernelIdeal : Cert.KernelIdeal.Facts] [hPre_finite_blocks : Cert.Pre_finite_blocks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_blocks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_blocks [hReferenceIdeal : Cert.ReferenceIdeal.Facts] [hPre_finite_blocks : Cert.Pre_finite_blocks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_blocks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_blocks [hKernelIdeal : Cert.KernelIdeal.Facts] [hReferenceIdeal : Cert.ReferenceIdeal.Facts] [hPre_finite_blocks : Cert.Pre_finite_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_blocks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_blocks : Cert.Pre_finite_blocks.Facts),
    quiescent_Kernel (hKernel := hKernel)
    ∧ quiescent_KernelIdeal (hKernelIdeal := hKernelIdeal)
    ∧ quiescent_KernelIdeal_pre_finite_blocks (hKernelIdeal := hKernelIdeal) (hPre_finite_blocks := hPre_finite_blocks)
    ∧ quiescent_ReferenceIdeal (hReferenceIdeal := hReferenceIdeal)
    ∧ quiescent_ReferenceIdeal_pre_finite_blocks (hReferenceIdeal := hReferenceIdeal) (hPre_finite_blocks := hPre_finite_blocks)
    ∧ preserves_Kernel_KernelIdeal
    ∧ algebraic_KernelIdeal_ReferenceIdeal_pre_finite_blocks (hKernelIdeal := hKernelIdeal) (hReferenceIdeal := hReferenceIdeal) (hPre_finite_blocks := hPre_finite_blocks)
-- ==== Pre_finite_blocks.lean ====
abbrev S2x128x2880 : Shape := ⟨3, ![2, 128, 2880]⟩
abbrev S5760x2880 : Shape := ⟨2, ![5760, 2880]⟩
abbrev S5760x90x32 : Shape := ⟨3, ![5760, 90, 32]⟩
abbrev S_ : Shape := ⟨0, ![]⟩
abbrev S5760x90 : Shape := ⟨2, ![5760, 90]⟩

class Facts : Prop where
  bitsLt_bf16_f32 : FTy.bits .bf16 < FTy.bits .f32
  shapeCasts_S5760x2880_S5760x90x32 : S5760x2880.ShapeCasts S5760x90x32
  reducesTo_S5760x90x32_S5760x90_d2 : S5760x90x32.ReducesTo [2] S5760x90
  h_S_ : 0 < S_.numel
  bcast_S_S2x128x2880 : S_.BroadcastsInDim S2x128x2880 (![] : Fin 0 → Fin S2x128x2880.rank)
  bcast_S_S5760x2880 : S_.BroadcastsInDim S5760x2880 (![] : Fin 0 → Fin S5760x2880.rank)
  bcast_S_S5760x90 : S_.BroadcastsInDim S5760x90 (![] : Fin 0 → Fin S5760x90.rank)

variable [Facts]

def fn {F : FTy → Type} [FloatOps F] (main_arg0 : FVec F S2x128x2880 .bf16) (main_arg1 : FVec F S5760x2880 .bf16) : IVec S2x128x2880 1 × IVec S5760x2880 1 × IVec S5760x90 1 :=
  let main_v0 : FVec F S5760x2880 .f32 := (extf .f32 · bitsLt_bf16_f32) main_arg1
  let main_v1 : FVec F S5760x2880 .f32 := Host.absf main_v0
  let main_v2 : FVec F S5760x90x32 .f32 := shapeCast S5760x90x32 main_v1 shapeCasts_S5760x2880_S5760x90x32
  let main_cst : FVec F S_ .f32 := constant S_ .f32 0xFF800000#32
  let main_v3 : FVec F S5760x90 .f32 := (fun x v => Host.reduce FloatOps.maximumf x v reducesTo_S5760x90x32_S5760x90_d2 h_S_) main_v2 main_cst
  let main_v4 : FVec F S2x128x2880 .f32 := (extf .f32 · bitsLt_bf16_f32) main_arg0
  let main_v5 : FVec F S2x128x2880 .f32 := Host.absf main_v4
  let main_cst_0 : FVec F S_ .f32 := constant S_ .f32 0x7F800000#32
  let main_v6 : FVec F S2x128x2880 .f32 := broadcastInDim S2x128x2880 ![] bcast_S_S2x128x2880 main_cst_0
  let main_v7 : IVec S2x128x2880 1 := cmpf .olt main_v5 main_v6
  let main_cst_1 : FVec F S_ .f32 := constant S_ .f32 0x7F7F0000#32
  let main_v8 : FVec F S5760x2880 .f32 := broadcastInDim S5760x2880 ![] bcast_S_S5760x2880 main_cst_1
  let main_v9 : IVec S5760x2880 1 := cmpf .ole main_v1 main_v8
  let main_cst_2 : FVec F S_ .f32 := constant S_ .f32 0x00000000#32
  let main_v10 : FVec F S5760x90 .f32 := broadcastInDim S5760x90 ![] bcast_S_S5760x90 main_cst_2
  let main_v11 : IVec S5760x90 1 := cmpf .oeq main_v3 main_v10
  let main_cst_3 : FVec F S_ .f32 := constant S_ .f32 0x01800000#32
  let main_v12 : FVec F S5760x90 .f32 := broadcastInDim S5760x90 ![] bcast_S_S5760x90 main_cst_3
  let main_v13 : IVec S5760x90 1 := cmpf .oge main_v3 main_v12
  let main_v14 : IVec S5760x90 1 := ori main_v11 main_v13
  (main_v7, main_v9, main_v14)
-- ==== Kernel.lean ====
abbrev S2x128x2880 : Shape := ⟨3, ![2, 128, 2880]⟩
abbrev S5760x2880 : Shape := ⟨2, ![5760, 2880]⟩
abbrev S2x2880x128 : Shape := ⟨3, ![2, 2880, 128]⟩
abbrev S2880x5760 : Shape := ⟨2, ![2880, 5760]⟩
abbrev S3x90x5760 : Shape := ⟨3, ![3, 90, 5760]⟩
abbrev S1440x5760 : Shape := ⟨2, ![1440, 5760]⟩
abbrev S90x5760 : Shape := ⟨2, ![90, 5760]⟩
abbrev S2880x1280 : Shape := ⟨2, ![2880, 1280]⟩
abbrev S3x90x1280 : Shape := ⟨3, ![3, 90, 1280]⟩
abbrev S1440x1280 : Shape := ⟨2, ![1440, 1280]⟩
abbrev S90x1280 : Shape := ⟨2, ![90, 1280]⟩
abbrev S30x128x256 : Shape := ⟨3, ![30, 128, 256]⟩
abbrev S96x256 : Shape := ⟨2, ![96, 256]⟩
abbrev S1x96x128 : Shape := ⟨3, ![1, 96, 128]⟩
abbrev S96x128 : Shape := ⟨2, ![96, 128]⟩
abbrev S32x256 : Shape := ⟨2, ![32, 256]⟩
abbrev S256x256 : Shape := ⟨2, ![256, 256]⟩
abbrev S1x96x256 : Shape := ⟨3, ![1, 96, 256]⟩
abbrev S1x32x256 : Shape := ⟨3, ![1, 32, 256]⟩
abbrev S3x32x256 : Shape := ⟨3, ![3, 32, 256]⟩
abbrev S3x256 : Shape := ⟨2, ![3, 256]⟩
abbrev S3x1x256 : Shape := ⟨3, ![3, 1, 256]⟩
abbrev S1x128x256 : Shape := ⟨3, ![1, 128, 256]⟩
abbrev S128x256 : Shape := ⟨2, ![128, 256]⟩
abbrev S64x256 : Shape := ⟨2, ![64, 256]⟩
abbrev S1x3x256 : Shape := ⟨3, ![1, 3, 256]⟩
abbrev S48x2x256 : Shape := ⟨3, ![48, 2, 256]⟩
abbrev S48x1x256 : Shape := ⟨3, ![48, 1, 256]⟩
abbrev S48x256 : Shape := ⟨2, ![48, 256]⟩
abbrev S1440x256 : Shape := ⟨2, ![1440, 256]⟩
abbrev S90x256 : Shape := ⟨2, ![90, 256]⟩

abbrev nBuf : Space → Nat
  | .hbm => 7
  | .vmem => 10
  | .smem => 0
  | _ => 0

abbrev bufTy : (tb : Table) → Fin (tcTables nBuf tb) → BufTy
  | .hbm, ⟨0, _⟩ => ⟨S2x128x2880, .bf16⟩
  | .hbm, ⟨1, _⟩ => ⟨S5760x2880, .bf16⟩
  | .hbm, ⟨2, _⟩ => ⟨S2x2880x128, .bf16⟩
  | .hbm, ⟨3, _⟩ => ⟨S2880x5760, .bf16⟩
  | .hbm, ⟨4, _⟩ => ⟨S3x90x5760, .f32⟩
  | .hbm, ⟨5, _⟩ => ⟨S1440x5760, .i8⟩
  | .hbm, ⟨6, _⟩ => ⟨S90x5760, .i8⟩
  | .local _ .vmem, ⟨0, _⟩ => ⟨S2x2880x128, .bf16⟩
  | .local _ .vmem, ⟨1, _⟩ => ⟨S2880x1280, .bf16⟩
  | .local _ .vmem, ⟨2, _⟩ => ⟨S2880x1280, .bf16⟩
  | .local _ .vmem, ⟨3, _⟩ => ⟨S3x90x1280, .f32⟩
  | .local _ .vmem, ⟨4, _⟩ => ⟨S3x90x1280, .f32⟩
  | .local _ .vmem, ⟨5, _⟩ => ⟨S1440x1280, .i8⟩
  | .local _ .vmem, ⟨6, _⟩ => ⟨S1440x1280, .i8⟩
  | .local _ .vmem, ⟨7, _⟩ => ⟨S90x1280, .i8⟩
  | .local _ .vmem, ⟨8, _⟩ => ⟨S90x1280, .i8⟩
  | .local _ .vmem, ⟨9, _⟩ => ⟨S30x128x256, .bf16⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_40 : BitVec 32 := 0#32
  let c30_i32 : BitVec 32 := 30#32
  let v132 : BitVec 32 := Scalar.addi c0_i32_40 c30_i32
  let c1_i32_41 : BitVec 32 := 1#32
  ⟨c0_i32_40, v132, c1_i32_41⟩
def k0_mult1 (k0_t1 : Fin k0_t1_loop.trips) : BitVec 32 :=
  let c0_i32_40 : BitVec 32 := 0#32
  let c1_i32_41 : BitVec 32 := 1#32
  let arg7 : BitVec 32 := Scf.iv c0_i32_40 c1_i32_41 k0_t1
  let c96_i32 : BitVec 32 := 96#32
  let v133 : BitVec 32 := Scalar.muli arg7 c96_i32
  v133
def k0_off1 (k0_t1 : Fin k0_t1_loop.trips) : Fin 3 → Nat :=
  let c0 : Index := 0#32
  let c0_i32_40 : BitVec 32 := 0#32
  let c1_i32_41 : BitVec 32 := 1#32
  let arg7 : BitVec 32 := Scf.iv c0_i32_40 c1_i32_41 k0_t1
  let c96_i32 : BitVec 32 := 96#32
  let v133 : BitVec 32 := Scalar.muli arg7 c96_i32
  let v134 : BitVec 32 := v133
  let v135 : Index := Scalar.indexCast v134
  let c0_43 : Index := 0#32
  ![0, v135.toNat, 0]
def k0_off2 (k0_t1 : Fin k0_t1_loop.trips) : Fin 3 → Nat :=
  let c1 : Index := 1#32
  let c0_i32_40 : BitVec 32 := 0#32
  let c1_i32_41 : BitVec 32 := 1#32
  let arg7 : BitVec 32 := Scf.iv c0_i32_40 c1_i32_41 k0_t1
  let c96_i32 : BitVec 32 := 96#32
  let v133 : BitVec 32 := Scalar.muli arg7 c96_i32
  let v134 : BitVec 32 := v133
  let v138 : Index := Scalar.indexCast v134
  let c0_44 : Index := 0#32
  ![1, v138.toNat, 0]
def k0_off3 (k0_t1 : Fin k0_t1_loop.trips) : Fin 3 → Nat :=
  let c0_i32_40 : BitVec 32 := 0#32
  let c1_i32_41 : BitVec 32 := 1#32
  let arg7 : BitVec 32 := Scf.iv c0_i32_40 c1_i32_41 k0_t1
  let v174 : Index := Scalar.indexCast arg7
  let c0_51 : Index := 0#32
  let c0_52 : Index := 0#32
  ![v174.toNat, 0, 0]
def k0_off4 (k0_t1 : Fin k0_t1_loop.trips) : Fin 3 → Nat :=
  let c0_i32_40 : BitVec 32 := 0#32
  let c1_i32_41 : BitVec 32 := 1#32
  let arg7 : BitVec 32 := Scf.iv c0_i32_40 c1_i32_41 k0_t1
  let v179 : Index := Scalar.indexCast arg7
  let c96 : Index := 96#32
  let c0_53 : Index := 0#32
  ![v179.toNat, 96, 0]
@[reducible] def k0_t2_loop (i : grid0.Coords) : Scf.Loop 32 :=
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_11 : BitVec 32 := 1#32
  ⟨c0_i32_8, v29, c1_i32_11⟩
def k0_mult2 (i : grid0.Coords) (k0_t2 : Fin (k0_t2_loop i).trips) : BitVec 32 :=
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  v32
def k0_off5 (i : grid0.Coords) (k0_t2 : Fin (k0_t2_loop i).trips) : Fin 2 → Nat :=
  let c0 : Index := 0#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v34 : Index := Scalar.indexCast v33
  ![0, v34.toNat]
def k0_off6 (i : grid0.Coords) (k0_t2 : Fin (k0_t2_loop i).trips) : Fin 3 → Nat :=
  let c0_42 : Index := 0#32
  let c0_43 : Index := 0#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v199 : Index := Scalar.indexCast v33
  ![0, 0, v199.toNat]
def k0_off7 (i : grid0.Coords) (k0_t2 : Fin (k0_t2_loop i).trips) : Fin 3 → Nat :=
  let c1 : Index := 1#32
  let c0_54 : Index := 0#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v243 : Index := Scalar.indexCast v33
  ![1, 0, v243.toNat]
def k0_off8 (i : grid0.Coords) (k0_t2 : Fin (k0_t2_loop i).trips) : Fin 3 → Nat :=
  let c2 : Index := 2#32
  let c0_69 : Index := 0#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v310 : Index := Scalar.indexCast v33
  ![2, 0, v310.toNat]
def k0_off9 (i : grid0.Coords) (k0_t2 : Fin (k0_t2_loop i).trips) : Fin 2 → Nat :=
  let c96 : Index := 96#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v317 : Index := Scalar.indexCast v33
  ![96, v317.toNat]
def k0_off10 (i : grid0.Coords) (k0_t2 : Fin (k0_t2_loop i).trips) : Fin 3 → Nat :=
  let c0_111 : Index := 0#32
  let c3 : Index := 3#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v482 : Index := Scalar.indexCast v33
  ![0, 3, v482.toNat]
def k0_off11 (i : grid0.Coords) (k0_t2 : Fin (k0_t2_loop i).trips) : Fin 3 → Nat :=
  let c1_122 : Index := 1#32
  let c3_123 : Index := 3#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v526 : Index := Scalar.indexCast v33
  ![1, 3, v526.toNat]
def k0_off12 (i : grid0.Coords) (k0_t2 : Fin (k0_t2_loop i).trips) : Fin 3 → Nat :=
  let c2_140 : Index := 2#32
  let c3_141 : Index := 3#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v593 : Index := Scalar.indexCast v33
  ![2, 3, v593.toNat]
def k0_off13 (i : grid0.Coords) (k0_t2 : Fin (k0_t2_loop i).trips) : Fin 2 → Nat :=
  let c192 : Index := 192#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v600 : Index := Scalar.indexCast v33
  ![192, v600.toNat]
def k0_off14 (i : grid0.Coords) (k0_t2 : Fin (k0_t2_loop i).trips) : Fin 3 → Nat :=
  let c0_183 : Index := 0#32
  let c6 : Index := 6#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v765 : Index := Scalar.indexCast v33
  ![0, 6, v765.toNat]
def k0_off15 (i : grid0.Coords) (k0_t2 : Fin (k0_t2_loop i).trips) : Fin 3 → Nat :=
  let c1_194 : Index := 1#32
  let c6_195 : Index := 6#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v809 : Index := Scalar.indexCast v33
  ![1, 6, v809.toNat]
def k0_off16 (i : grid0.Coords) (k0_t2 : Fin (k0_t2_loop i).trips) : Fin 3 → Nat :=
  let c2_212 : Index := 2#32
  let c6_213 : Index := 6#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v876 : Index := Scalar.indexCast v33
  ![2, 6, v876.toNat]
def k0_off17 (i : grid0.Coords) (k0_t2 : Fin (k0_t2_loop i).trips) : Fin 2 → Nat :=
  let c288 : Index := 288#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v883 : Index := Scalar.indexCast v33
  ![288, v883.toNat]
def k0_off18 (i : grid0.Coords) (k0_t2 : Fin (k0_t2_loop i).trips) : Fin 3 → Nat :=
  let c0_255 : Index := 0#32
  let c9 : Index := 9#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1048 : Index := Scalar.indexCast v33
  ![0, 9, v1048.toNat]
def k0_off19 (i : grid0.Coords) (k0_t2 : Fin (k0_t2_loop i).trips) : Fin 3 → Nat :=
  let c1_266 : Index := 1#32
  let c9_267 : Index := 9#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1092 : Index := Scalar.indexCast v33
  ![1, 9, v1092.toNat]
def k0_off20 (i : grid0.Coords) (k0_t2 : Fin (k0_t2_loop i).trips) : Fin 3 → Nat :=
  let c2_284 : Index := 2#32
  let c9_285 : Index := 9#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1159 : Index := Scalar.indexCast v33
  ![2, 9, v1159.toNat]
def k0_off21 (i : grid0.Coords) (k0_t2 : Fin (k0_t2_loop i).trips) : Fin 2 → Nat :=
  let c384 : Index := 384#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1166 : Index := Scalar.indexCast v33
  ![384, v1166.toNat]
def k0_off22 (i : grid0.Coords) (k0_t2 : Fin (k0_t2_loop i).trips) : Fin 3 → Nat :=
  let c0_326 : Index := 0#32
  let c12 : Index := 12#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1331 : Index := Scalar.indexCast v33
  ![0, 12, v1331.toNat]
def k0_off23 (i : grid0.Coords) (k0_t2 : Fin (k0_t2_loop i).trips) : Fin 3 → Nat :=
  let c1_337 : Index := 1#32
  let c12_338 : Index := 12#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1375 : Index := Scalar.indexCast v33
  ![1, 12, v1375.toNat]
def k0_off24 (i : grid0.Coords) (k0_t2 : Fin (k0_t2_loop i).trips) : Fin 3 → Nat :=
  let c2_355 : Index := 2#32
  let c12_356 : Index := 12#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1442 : Index := Scalar.indexCast v33
  ![2, 12, v1442.toNat]
def k0_off25 (i : grid0.Coords) (k0_t2 : Fin (k0_t2_loop i).trips) : Fin 2 → Nat :=
  let c480 : Index := 480#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1449 : Index := Scalar.indexCast v33
  ![480, v1449.toNat]
def k0_off26 (i : grid0.Coords) (k0_t2 : Fin (k0_t2_loop i).trips) : Fin 3 → Nat :=
  let c0_397 : Index := 0#32
  let c15 : Index := 15#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1614 : Index := Scalar.indexCast v33
  ![0, 15, v1614.toNat]
def k0_off27 (i : grid0.Coords) (k0_t2 : Fin (k0_t2_loop i).trips) : Fin 3 → Nat :=
  let c1_408 : Index := 1#32
  let c15_409 : Index := 15#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1658 : Index := Scalar.indexCast v33
  ![1, 15, v1658.toNat]
def k0_off28 (i : grid0.Coords) (k0_t2 : Fin (k0_t2_loop i).trips) : Fin 3 → Nat :=
  let c2_426 : Index := 2#32
  let c15_427 : Index := 15#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1725 : Index := Scalar.indexCast v33
  ![2, 15, v1725.toNat]
def k0_off29 (i : grid0.Coords) (k0_t2 : Fin (k0_t2_loop i).trips) : Fin 2 → Nat :=
  let c576 : Index := 576#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1732 : Index := Scalar.indexCast v33
  ![576, v1732.toNat]
def k0_off30 (i : grid0.Coords) (k0_t2 : Fin (k0_t2_loop i).trips) : Fin 3 → Nat :=
  let c0_469 : Index := 0#32
  let c18 : Index := 18#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1897 : Index := Scalar.indexCast v33
  ![0, 18, v1897.toNat]
def k0_off31 (i : grid0.Coords) (k0_t2 : Fin (k0_t2_loop i).trips) : Fin 3 → Nat :=
  let c1_480 : Index := 1#32
  let c18_481 : Index := 18#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v1941 : Index := Scalar.indexCast v33
  ![1, 18, v1941.toNat]
def k0_off32 (i : grid0.Coords) (k0_t2 : Fin (k0_t2_loop i).trips) : Fin 3 → Nat :=
  let c2_498 : Index := 2#32
  let c18_499 : Index := 18#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2008 : Index := Scalar.indexCast v33
  ![2, 18, v2008.toNat]
def k0_off33 (i : grid0.Coords) (k0_t2 : Fin (k0_t2_loop i).trips) : Fin 2 → Nat :=
  let c672 : Index := 672#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2015 : Index := Scalar.indexCast v33
  ![672, v2015.toNat]
def k0_off34 (i : grid0.Coords) (k0_t2 : Fin (k0_t2_loop i).trips) : Fin 3 → Nat :=
  let c0_540 : Index := 0#32
  let c21 : Index := 21#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2180 : Index := Scalar.indexCast v33
  ![0, 21, v2180.toNat]
def k0_off35 (i : grid0.Coords) (k0_t2 : Fin (k0_t2_loop i).trips) : Fin 3 → Nat :=
  let c1_551 : Index := 1#32
  let c21_552 : Index := 21#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2224 : Index := Scalar.indexCast v33
  ![1, 21, v2224.toNat]
def k0_off36 (i : grid0.Coords) (k0_t2 : Fin (k0_t2_loop i).trips) : Fin 3 → Nat :=
  let c2_569 : Index := 2#32
  let c21_570 : Index := 21#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2291 : Index := Scalar.indexCast v33
  ![2, 21, v2291.toNat]
def k0_off37 (i : grid0.Coords) (k0_t2 : Fin (k0_t2_loop i).trips) : Fin 2 → Nat :=
  let c768 : Index := 768#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2298 : Index := Scalar.indexCast v33
  ![768, v2298.toNat]
def k0_off38 (i : grid0.Coords) (k0_t2 : Fin (k0_t2_loop i).trips) : Fin 3 → Nat :=
  let c0_611 : Index := 0#32
  let c24 : Index := 24#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2463 : Index := Scalar.indexCast v33
  ![0, 24, v2463.toNat]
def k0_off39 (i : grid0.Coords) (k0_t2 : Fin (k0_t2_loop i).trips) : Fin 3 → Nat :=
  let c1_622 : Index := 1#32
  let c24_623 : Index := 24#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2507 : Index := Scalar.indexCast v33
  ![1, 24, v2507.toNat]
def k0_off40 (i : grid0.Coords) (k0_t2 : Fin (k0_t2_loop i).trips) : Fin 3 → Nat :=
  let c2_640 : Index := 2#32
  let c24_641 : Index := 24#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2574 : Index := Scalar.indexCast v33
  ![2, 24, v2574.toNat]
def k0_off41 (i : grid0.Coords) (k0_t2 : Fin (k0_t2_loop i).trips) : Fin 2 → Nat :=
  let c864 : Index := 864#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2581 : Index := Scalar.indexCast v33
  ![864, v2581.toNat]
def k0_off42 (i : grid0.Coords) (k0_t2 : Fin (k0_t2_loop i).trips) : Fin 3 → Nat :=
  let c0_683 : Index := 0#32
  let c27 : Index := 27#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2746 : Index := Scalar.indexCast v33
  ![0, 27, v2746.toNat]
def k0_off43 (i : grid0.Coords) (k0_t2 : Fin (k0_t2_loop i).trips) : Fin 3 → Nat :=
  let c1_694 : Index := 1#32
  let c27_695 : Index := 27#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2790 : Index := Scalar.indexCast v33
  ![1, 27, v2790.toNat]
def k0_off44 (i : grid0.Coords) (k0_t2 : Fin (k0_t2_loop i).trips) : Fin 3 → Nat :=
  let c2_712 : Index := 2#32
  let c27_713 : Index := 27#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2857 : Index := Scalar.indexCast v33
  ![2, 27, v2857.toNat]
def k0_off45 (i : grid0.Coords) (k0_t2 : Fin (k0_t2_loop i).trips) : Fin 2 → Nat :=
  let c960 : Index := 960#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v2864 : Index := Scalar.indexCast v33
  ![960, v2864.toNat]
def k0_off46 (i : grid0.Coords) (k0_t2 : Fin (k0_t2_loop i).trips) : Fin 3 → Nat :=
  let c0_754 : Index := 0#32
  let c30 : Index := 30#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3029 : Index := Scalar.indexCast v33
  ![0, 30, v3029.toNat]
def k0_off47 (i : grid0.Coords) (k0_t2 : Fin (k0_t2_loop i).trips) : Fin 3 → Nat :=
  let c1_765 : Index := 1#32
  let c30_766 : Index := 30#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3073 : Index := Scalar.indexCast v33
  ![1, 30, v3073.toNat]
def k0_off48 (i : grid0.Coords) (k0_t2 : Fin (k0_t2_loop i).trips) : Fin 3 → Nat :=
  let c2_783 : Index := 2#32
  let c30_784 : Index := 30#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3140 : Index := Scalar.indexCast v33
  ![2, 30, v3140.toNat]
def k0_off49 (i : grid0.Coords) (k0_t2 : Fin (k0_t2_loop i).trips) : Fin 2 → Nat :=
  let c1056 : Index := 1056#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3147 : Index := Scalar.indexCast v33
  ![1056, v3147.toNat]
def k0_off50 (i : grid0.Coords) (k0_t2 : Fin (k0_t2_loop i).trips) : Fin 3 → Nat :=
  let c0_825 : Index := 0#32
  let c33 : Index := 33#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3312 : Index := Scalar.indexCast v33
  ![0, 33, v3312.toNat]
def k0_off51 (i : grid0.Coords) (k0_t2 : Fin (k0_t2_loop i).trips) : Fin 3 → Nat :=
  let c1_836 : Index := 1#32
  let c33_837 : Index := 33#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3356 : Index := Scalar.indexCast v33
  ![1, 33, v3356.toNat]
def k0_off52 (i : grid0.Coords) (k0_t2 : Fin (k0_t2_loop i).trips) : Fin 3 → Nat :=
  let c2_854 : Index := 2#32
  let c33_855 : Index := 33#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3423 : Index := Scalar.indexCast v33
  ![2, 33, v3423.toNat]
def k0_off53 (i : grid0.Coords) (k0_t2 : Fin (k0_t2_loop i).trips) : Fin 2 → Nat :=
  let c1152 : Index := 1152#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3430 : Index := Scalar.indexCast v33
  ![1152, v3430.toNat]
def k0_off54 (i : grid0.Coords) (k0_t2 : Fin (k0_t2_loop i).trips) : Fin 3 → Nat :=
  let c0_897 : Index := 0#32
  let c36 : Index := 36#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3595 : Index := Scalar.indexCast v33
  ![0, 36, v3595.toNat]
def k0_off55 (i : grid0.Coords) (k0_t2 : Fin (k0_t2_loop i).trips) : Fin 3 → Nat :=
  let c1_908 : Index := 1#32
  let c36_909 : Index := 36#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3639 : Index := Scalar.indexCast v33
  ![1, 36, v3639.toNat]
def k0_off56 (i : grid0.Coords) (k0_t2 : Fin (k0_t2_loop i).trips) : Fin 3 → Nat :=
  let c2_926 : Index := 2#32
  let c36_927 : Index := 36#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3706 : Index := Scalar.indexCast v33
  ![2, 36, v3706.toNat]
def k0_off57 (i : grid0.Coords) (k0_t2 : Fin (k0_t2_loop i).trips) : Fin 2 → Nat :=
  let c1248 : Index := 1248#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3713 : Index := Scalar.indexCast v33
  ![1248, v3713.toNat]
def k0_off58 (i : grid0.Coords) (k0_t2 : Fin (k0_t2_loop i).trips) : Fin 3 → Nat :=
  let c0_968 : Index := 0#32
  let c39 : Index := 39#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3878 : Index := Scalar.indexCast v33
  ![0, 39, v3878.toNat]
def k0_off59 (i : grid0.Coords) (k0_t2 : Fin (k0_t2_loop i).trips) : Fin 3 → Nat :=
  let c1_979 : Index := 1#32
  let c39_980 : Index := 39#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3922 : Index := Scalar.indexCast v33
  ![1, 39, v3922.toNat]
def k0_off60 (i : grid0.Coords) (k0_t2 : Fin (k0_t2_loop i).trips) : Fin 3 → Nat :=
  let c2_997 : Index := 2#32
  let c39_998 : Index := 39#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3989 : Index := Scalar.indexCast v33
  ![2, 39, v3989.toNat]
def k0_off61 (i : grid0.Coords) (k0_t2 : Fin (k0_t2_loop i).trips) : Fin 2 → Nat :=
  let c1344 : Index := 1344#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v3996 : Index := Scalar.indexCast v33
  ![1344, v3996.toNat]
def k0_off62 (i : grid0.Coords) (k0_t2 : Fin (k0_t2_loop i).trips) : Fin 3 → Nat :=
  let c0_1039 : Index := 0#32
  let c42 : Index := 42#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4161 : Index := Scalar.indexCast v33
  ![0, 42, v4161.toNat]
def k0_off63 (i : grid0.Coords) (k0_t2 : Fin (k0_t2_loop i).trips) : Fin 3 → Nat :=
  let c1_1050 : Index := 1#32
  let c42_1051 : Index := 42#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4205 : Index := Scalar.indexCast v33
  ![1, 42, v4205.toNat]
def k0_off64 (i : grid0.Coords) (k0_t2 : Fin (k0_t2_loop i).trips) : Fin 3 → Nat :=
  let c2_1068 : Index := 2#32
  let c42_1069 : Index := 42#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4272 : Index := Scalar.indexCast v33
  ![2, 42, v4272.toNat]
def k0_off65 (i : grid0.Coords) (k0_t2 : Fin (k0_t2_loop i).trips) : Fin 2 → Nat :=
  let c1440 : Index := 1440#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4279 : Index := Scalar.indexCast v33
  ![1440, v4279.toNat]
def k0_off66 (i : grid0.Coords) (k0_t2 : Fin (k0_t2_loop i).trips) : Fin 3 → Nat :=
  let c0_1111 : Index := 0#32
  let c45 : Index := 45#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4444 : Index := Scalar.indexCast v33
  ![0, 45, v4444.toNat]
def k0_off67 (i : grid0.Coords) (k0_t2 : Fin (k0_t2_loop i).trips) : Fin 3 → Nat :=
  let c1_1122 : Index := 1#32
  let c45_1123 : Index := 45#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4488 : Index := Scalar.indexCast v33
  ![1, 45, v4488.toNat]
def k0_off68 (i : grid0.Coords) (k0_t2 : Fin (k0_t2_loop i).trips) : Fin 3 → Nat :=
  let c2_1140 : Index := 2#32
  let c45_1141 : Index := 45#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4555 : Index := Scalar.indexCast v33
  ![2, 45, v4555.toNat]
def k0_off69 (i : grid0.Coords) (k0_t2 : Fin (k0_t2_loop i).trips) : Fin 2 → Nat :=
  let c1536 : Index := 1536#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4562 : Index := Scalar.indexCast v33
  ![1536, v4562.toNat]
def k0_off70 (i : grid0.Coords) (k0_t2 : Fin (k0_t2_loop i).trips) : Fin 3 → Nat :=
  let c0_1182 : Index := 0#32
  let c48 : Index := 48#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4727 : Index := Scalar.indexCast v33
  ![0, 48, v4727.toNat]
def k0_off71 (i : grid0.Coords) (k0_t2 : Fin (k0_t2_loop i).trips) : Fin 3 → Nat :=
  let c1_1193 : Index := 1#32
  let c48_1194 : Index := 48#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4771 : Index := Scalar.indexCast v33
  ![1, 48, v4771.toNat]
def k0_off72 (i : grid0.Coords) (k0_t2 : Fin (k0_t2_loop i).trips) : Fin 3 → Nat :=
  let c2_1211 : Index := 2#32
  let c48_1212 : Index := 48#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4838 : Index := Scalar.indexCast v33
  ![2, 48, v4838.toNat]
def k0_off73 (i : grid0.Coords) (k0_t2 : Fin (k0_t2_loop i).trips) : Fin 2 → Nat :=
  let c1632 : Index := 1632#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v4845 : Index := Scalar.indexCast v33
  ![1632, v4845.toNat]
def k0_off74 (i : grid0.Coords) (k0_t2 : Fin (k0_t2_loop i).trips) : Fin 3 → Nat :=
  let c0_1253 : Index := 0#32
  let c51 : Index := 51#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5010 : Index := Scalar.indexCast v33
  ![0, 51, v5010.toNat]
def k0_off75 (i : grid0.Coords) (k0_t2 : Fin (k0_t2_loop i).trips) : Fin 3 → Nat :=
  let c1_1264 : Index := 1#32
  let c51_1265 : Index := 51#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5054 : Index := Scalar.indexCast v33
  ![1, 51, v5054.toNat]
def k0_off76 (i : grid0.Coords) (k0_t2 : Fin (k0_t2_loop i).trips) : Fin 3 → Nat :=
  let c2_1282 : Index := 2#32
  let c51_1283 : Index := 51#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5121 : Index := Scalar.indexCast v33
  ![2, 51, v5121.toNat]
def k0_off77 (i : grid0.Coords) (k0_t2 : Fin (k0_t2_loop i).trips) : Fin 2 → Nat :=
  let c1728 : Index := 1728#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5128 : Index := Scalar.indexCast v33
  ![1728, v5128.toNat]
def k0_off78 (i : grid0.Coords) (k0_t2 : Fin (k0_t2_loop i).trips) : Fin 3 → Nat :=
  let c0_1325 : Index := 0#32
  let c54 : Index := 54#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5293 : Index := Scalar.indexCast v33
  ![0, 54, v5293.toNat]
def k0_off79 (i : grid0.Coords) (k0_t2 : Fin (k0_t2_loop i).trips) : Fin 3 → Nat :=
  let c1_1336 : Index := 1#32
  let c54_1337 : Index := 54#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5337 : Index := Scalar.indexCast v33
  ![1, 54, v5337.toNat]
def k0_off80 (i : grid0.Coords) (k0_t2 : Fin (k0_t2_loop i).trips) : Fin 3 → Nat :=
  let c2_1354 : Index := 2#32
  let c54_1355 : Index := 54#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5404 : Index := Scalar.indexCast v33
  ![2, 54, v5404.toNat]
def k0_off81 (i : grid0.Coords) (k0_t2 : Fin (k0_t2_loop i).trips) : Fin 2 → Nat :=
  let c1824 : Index := 1824#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5411 : Index := Scalar.indexCast v33
  ![1824, v5411.toNat]
def k0_off82 (i : grid0.Coords) (k0_t2 : Fin (k0_t2_loop i).trips) : Fin 3 → Nat :=
  let c0_1396 : Index := 0#32
  let c57 : Index := 57#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5576 : Index := Scalar.indexCast v33
  ![0, 57, v5576.toNat]
def k0_off83 (i : grid0.Coords) (k0_t2 : Fin (k0_t2_loop i).trips) : Fin 3 → Nat :=
  let c1_1407 : Index := 1#32
  let c57_1408 : Index := 57#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5620 : Index := Scalar.indexCast v33
  ![1, 57, v5620.toNat]
def k0_off84 (i : grid0.Coords) (k0_t2 : Fin (k0_t2_loop i).trips) : Fin 3 → Nat :=
  let c2_1425 : Index := 2#32
  let c57_1426 : Index := 57#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5687 : Index := Scalar.indexCast v33
  ![2, 57, v5687.toNat]
def k0_off85 (i : grid0.Coords) (k0_t2 : Fin (k0_t2_loop i).trips) : Fin 2 → Nat :=
  let c1920 : Index := 1920#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5694 : Index := Scalar.indexCast v33
  ![1920, v5694.toNat]
def k0_off86 (i : grid0.Coords) (k0_t2 : Fin (k0_t2_loop i).trips) : Fin 3 → Nat :=
  let c0_1467 : Index := 0#32
  let c60 : Index := 60#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5859 : Index := Scalar.indexCast v33
  ![0, 60, v5859.toNat]
def k0_off87 (i : grid0.Coords) (k0_t2 : Fin (k0_t2_loop i).trips) : Fin 3 → Nat :=
  let c1_1478 : Index := 1#32
  let c60_1479 : Index := 60#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5903 : Index := Scalar.indexCast v33
  ![1, 60, v5903.toNat]
def k0_off88 (i : grid0.Coords) (k0_t2 : Fin (k0_t2_loop i).trips) : Fin 3 → Nat :=
  let c2_1496 : Index := 2#32
  let c60_1497 : Index := 60#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5970 : Index := Scalar.indexCast v33
  ![2, 60, v5970.toNat]
def k0_off89 (i : grid0.Coords) (k0_t2 : Fin (k0_t2_loop i).trips) : Fin 2 → Nat :=
  let c2016 : Index := 2016#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v5977 : Index := Scalar.indexCast v33
  ![2016, v5977.toNat]
def k0_off90 (i : grid0.Coords) (k0_t2 : Fin (k0_t2_loop i).trips) : Fin 3 → Nat :=
  let c0_1539 : Index := 0#32
  let c63 : Index := 63#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6142 : Index := Scalar.indexCast v33
  ![0, 63, v6142.toNat]
def k0_off91 (i : grid0.Coords) (k0_t2 : Fin (k0_t2_loop i).trips) : Fin 3 → Nat :=
  let c1_1550 : Index := 1#32
  let c63_1551 : Index := 63#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6186 : Index := Scalar.indexCast v33
  ![1, 63, v6186.toNat]
def k0_off92 (i : grid0.Coords) (k0_t2 : Fin (k0_t2_loop i).trips) : Fin 3 → Nat :=
  let c2_1568 : Index := 2#32
  let c63_1569 : Index := 63#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6253 : Index := Scalar.indexCast v33
  ![2, 63, v6253.toNat]
def k0_off93 (i : grid0.Coords) (k0_t2 : Fin (k0_t2_loop i).trips) : Fin 2 → Nat :=
  let c2112 : Index := 2112#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6260 : Index := Scalar.indexCast v33
  ![2112, v6260.toNat]
def k0_off94 (i : grid0.Coords) (k0_t2 : Fin (k0_t2_loop i).trips) : Fin 3 → Nat :=
  let c0_1610 : Index := 0#32
  let c66 : Index := 66#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6425 : Index := Scalar.indexCast v33
  ![0, 66, v6425.toNat]
def k0_off95 (i : grid0.Coords) (k0_t2 : Fin (k0_t2_loop i).trips) : Fin 3 → Nat :=
  let c1_1621 : Index := 1#32
  let c66_1622 : Index := 66#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6469 : Index := Scalar.indexCast v33
  ![1, 66, v6469.toNat]
def k0_off96 (i : grid0.Coords) (k0_t2 : Fin (k0_t2_loop i).trips) : Fin 3 → Nat :=
  let c2_1639 : Index := 2#32
  let c66_1640 : Index := 66#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6536 : Index := Scalar.indexCast v33
  ![2, 66, v6536.toNat]
def k0_off97 (i : grid0.Coords) (k0_t2 : Fin (k0_t2_loop i).trips) : Fin 2 → Nat :=
  let c2208 : Index := 2208#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6543 : Index := Scalar.indexCast v33
  ![2208, v6543.toNat]
def k0_off98 (i : grid0.Coords) (k0_t2 : Fin (k0_t2_loop i).trips) : Fin 3 → Nat :=
  let c0_1681 : Index := 0#32
  let c69 : Index := 69#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6708 : Index := Scalar.indexCast v33
  ![0, 69, v6708.toNat]
def k0_off99 (i : grid0.Coords) (k0_t2 : Fin (k0_t2_loop i).trips) : Fin 3 → Nat :=
  let c1_1692 : Index := 1#32
  let c69_1693 : Index := 69#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6752 : Index := Scalar.indexCast v33
  ![1, 69, v6752.toNat]
def k0_off100 (i : grid0.Coords) (k0_t2 : Fin (k0_t2_loop i).trips) : Fin 3 → Nat :=
  let c2_1710 : Index := 2#32
  let c69_1711 : Index := 69#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6819 : Index := Scalar.indexCast v33
  ![2, 69, v6819.toNat]
def k0_off101 (i : grid0.Coords) (k0_t2 : Fin (k0_t2_loop i).trips) : Fin 2 → Nat :=
  let c2304 : Index := 2304#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6826 : Index := Scalar.indexCast v33
  ![2304, v6826.toNat]
def k0_off102 (i : grid0.Coords) (k0_t2 : Fin (k0_t2_loop i).trips) : Fin 3 → Nat :=
  let c0_1753 : Index := 0#32
  let c72 : Index := 72#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v6991 : Index := Scalar.indexCast v33
  ![0, 72, v6991.toNat]
def k0_off103 (i : grid0.Coords) (k0_t2 : Fin (k0_t2_loop i).trips) : Fin 3 → Nat :=
  let c1_1764 : Index := 1#32
  let c72_1765 : Index := 72#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7035 : Index := Scalar.indexCast v33
  ![1, 72, v7035.toNat]
def k0_off104 (i : grid0.Coords) (k0_t2 : Fin (k0_t2_loop i).trips) : Fin 3 → Nat :=
  let c2_1782 : Index := 2#32
  let c72_1783 : Index := 72#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7102 : Index := Scalar.indexCast v33
  ![2, 72, v7102.toNat]
def k0_off105 (i : grid0.Coords) (k0_t2 : Fin (k0_t2_loop i).trips) : Fin 2 → Nat :=
  let c2400 : Index := 2400#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7109 : Index := Scalar.indexCast v33
  ![2400, v7109.toNat]
def k0_off106 (i : grid0.Coords) (k0_t2 : Fin (k0_t2_loop i).trips) : Fin 3 → Nat :=
  let c0_1824 : Index := 0#32
  let c75 : Index := 75#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7274 : Index := Scalar.indexCast v33
  ![0, 75, v7274.toNat]
def k0_off107 (i : grid0.Coords) (k0_t2 : Fin (k0_t2_loop i).trips) : Fin 3 → Nat :=
  let c1_1835 : Index := 1#32
  let c75_1836 : Index := 75#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7318 : Index := Scalar.indexCast v33
  ![1, 75, v7318.toNat]
def k0_off108 (i : grid0.Coords) (k0_t2 : Fin (k0_t2_loop i).trips) : Fin 3 → Nat :=
  let c2_1853 : Index := 2#32
  let c75_1854 : Index := 75#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7385 : Index := Scalar.indexCast v33
  ![2, 75, v7385.toNat]
def k0_off109 (i : grid0.Coords) (k0_t2 : Fin (k0_t2_loop i).trips) : Fin 2 → Nat :=
  let c2496 : Index := 2496#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7392 : Index := Scalar.indexCast v33
  ![2496, v7392.toNat]
def k0_off110 (i : grid0.Coords) (k0_t2 : Fin (k0_t2_loop i).trips) : Fin 3 → Nat :=
  let c0_1895 : Index := 0#32
  let c78 : Index := 78#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7557 : Index := Scalar.indexCast v33
  ![0, 78, v7557.toNat]
def k0_off111 (i : grid0.Coords) (k0_t2 : Fin (k0_t2_loop i).trips) : Fin 3 → Nat :=
  let c1_1906 : Index := 1#32
  let c78_1907 : Index := 78#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7601 : Index := Scalar.indexCast v33
  ![1, 78, v7601.toNat]
def k0_off112 (i : grid0.Coords) (k0_t2 : Fin (k0_t2_loop i).trips) : Fin 3 → Nat :=
  let c2_1924 : Index := 2#32
  let c78_1925 : Index := 78#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7668 : Index := Scalar.indexCast v33
  ![2, 78, v7668.toNat]
def k0_off113 (i : grid0.Coords) (k0_t2 : Fin (k0_t2_loop i).trips) : Fin 2 → Nat :=
  let c2592 : Index := 2592#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7675 : Index := Scalar.indexCast v33
  ![2592, v7675.toNat]
def k0_off114 (i : grid0.Coords) (k0_t2 : Fin (k0_t2_loop i).trips) : Fin 3 → Nat :=
  let c0_1967 : Index := 0#32
  let c81 : Index := 81#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7840 : Index := Scalar.indexCast v33
  ![0, 81, v7840.toNat]
def k0_off115 (i : grid0.Coords) (k0_t2 : Fin (k0_t2_loop i).trips) : Fin 3 → Nat :=
  let c1_1978 : Index := 1#32
  let c81_1979 : Index := 81#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7884 : Index := Scalar.indexCast v33
  ![1, 81, v7884.toNat]
def k0_off116 (i : grid0.Coords) (k0_t2 : Fin (k0_t2_loop i).trips) : Fin 3 → Nat :=
  let c2_1996 : Index := 2#32
  let c81_1997 : Index := 81#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7951 : Index := Scalar.indexCast v33
  ![2, 81, v7951.toNat]
def k0_off117 (i : grid0.Coords) (k0_t2 : Fin (k0_t2_loop i).trips) : Fin 2 → Nat :=
  let c2688 : Index := 2688#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v7958 : Index := Scalar.indexCast v33
  ![2688, v7958.toNat]
def k0_off118 (i : grid0.Coords) (k0_t2 : Fin (k0_t2_loop i).trips) : Fin 3 → Nat :=
  let c0_2038 : Index := 0#32
  let c84 : Index := 84#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v8123 : Index := Scalar.indexCast v33
  ![0, 84, v8123.toNat]
def k0_off119 (i : grid0.Coords) (k0_t2 : Fin (k0_t2_loop i).trips) : Fin 3 → Nat :=
  let c1_2049 : Index := 1#32
  let c84_2050 : Index := 84#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v8167 : Index := Scalar.indexCast v33
  ![1, 84, v8167.toNat]
def k0_off120 (i : grid0.Coords) (k0_t2 : Fin (k0_t2_loop i).trips) : Fin 3 → Nat :=
  let c2_2067 : Index := 2#32
  let c84_2068 : Index := 84#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v8234 : Index := Scalar.indexCast v33
  ![2, 84, v8234.toNat]
def k0_off121 (i : grid0.Coords) (k0_t2 : Fin (k0_t2_loop i).trips) : Fin 2 → Nat :=
  let c2784 : Index := 2784#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v8241 : Index := Scalar.indexCast v33
  ![2784, v8241.toNat]
def k0_off122 (i : grid0.Coords) (k0_t2 : Fin (k0_t2_loop i).trips) : Fin 3 → Nat :=
  let c0_2109 : Index := 0#32
  let c87 : Index := 87#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v8406 : Index := Scalar.indexCast v33
  ![0, 87, v8406.toNat]
def k0_off123 (i : grid0.Coords) (k0_t2 : Fin (k0_t2_loop i).trips) : Fin 3 → Nat :=
  let c1_2120 : Index := 1#32
  let c87_2121 : Index := 87#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v8450 : Index := Scalar.indexCast v33
  ![1, 87, v8450.toNat]
def k0_off124 (i : grid0.Coords) (k0_t2 : Fin (k0_t2_loop i).trips) : Fin 3 → Nat :=
  let c2_2138 : Index := 2#32
  let c87_2139 : Index := 87#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v8517 : Index := Scalar.indexCast v33
  ![2, 87, v8517.toNat]
def k0_off125 (i : grid0.Coords) (k0_t2 : Fin (k0_t2_loop i).trips) : Fin 2 → Nat :=
  let c0_2141 : Index := 0#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v8526 : Index := Scalar.indexCast v33
  ![0, v8526.toNat]
def k0_off126 (i : grid0.Coords) (k0_t2 : Fin (k0_t2_loop i).trips) : Fin 2 → Nat :=
  let c0_2142 : Index := 0#32
  let c0_i32_8 : BitVec 32 := 0#32
  let c1_i32_11 : BitVec 32 := 1#32
  let arg7 : BitVec 32 := Scf.iv c0_i32_8 c1_i32_11 k0_t2
  let c256_i32_13 : BitVec 32 := 256#32
  let v32 : BitVec 32 := Scalar.muli arg7 c256_i32_13
  let v33 : BitVec 32 := v32
  let v8530 : Index := Scalar.indexCast v33
  ![0, v8530.toNat]
@[reducible] def k0_t3_loop (i : grid0.Coords) : Scf.Loop 32 :=
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let v26 : BitVec 32 := Scalar.addi c0_i32_8 v25
  let c1_i32_12 : BitVec 32 := 1#32
  ⟨v29, v26, c1_i32_12⟩
def k0_mult3 (i : grid0.Coords) (k0_t3 : Fin (k0_t3_loop i).trips) : BitVec 32 :=
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  v32
def k0_off127 (i : grid0.Coords) (k0_t3 : Fin (k0_t3_loop i).trips) : Fin 2 → Nat :=
  let c0 : Index := 0#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v34 : Index := Scalar.indexCast v33
  ![0, v34.toNat]
def k0_off128 (i : grid0.Coords) (k0_t3 : Fin (k0_t3_loop i).trips) : Fin 3 → Nat :=
  let c0_42 : Index := 0#32
  let c0_43 : Index := 0#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v199 : Index := Scalar.indexCast v33
  ![0, 0, v199.toNat]
def k0_off129 (i : grid0.Coords) (k0_t3 : Fin (k0_t3_loop i).trips) : Fin 3 → Nat :=
  let c1 : Index := 1#32
  let c0_54 : Index := 0#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v243 : Index := Scalar.indexCast v33
  ![1, 0, v243.toNat]
def k0_off130 (i : grid0.Coords) (k0_t3 : Fin (k0_t3_loop i).trips) : Fin 3 → Nat :=
  let c2 : Index := 2#32
  let c0_69 : Index := 0#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v310 : Index := Scalar.indexCast v33
  ![2, 0, v310.toNat]
def k0_off131 (i : grid0.Coords) (k0_t3 : Fin (k0_t3_loop i).trips) : Fin 2 → Nat :=
  let c96 : Index := 96#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v317 : Index := Scalar.indexCast v33
  ![96, v317.toNat]
def k0_off132 (i : grid0.Coords) (k0_t3 : Fin (k0_t3_loop i).trips) : Fin 3 → Nat :=
  let c0_111 : Index := 0#32
  let c3 : Index := 3#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v482 : Index := Scalar.indexCast v33
  ![0, 3, v482.toNat]
def k0_off133 (i : grid0.Coords) (k0_t3 : Fin (k0_t3_loop i).trips) : Fin 3 → Nat :=
  let c1_122 : Index := 1#32
  let c3_123 : Index := 3#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v526 : Index := Scalar.indexCast v33
  ![1, 3, v526.toNat]
def k0_off134 (i : grid0.Coords) (k0_t3 : Fin (k0_t3_loop i).trips) : Fin 3 → Nat :=
  let c2_140 : Index := 2#32
  let c3_141 : Index := 3#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v593 : Index := Scalar.indexCast v33
  ![2, 3, v593.toNat]
def k0_off135 (i : grid0.Coords) (k0_t3 : Fin (k0_t3_loop i).trips) : Fin 2 → Nat :=
  let c192 : Index := 192#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v600 : Index := Scalar.indexCast v33
  ![192, v600.toNat]
def k0_off136 (i : grid0.Coords) (k0_t3 : Fin (k0_t3_loop i).trips) : Fin 3 → Nat :=
  let c0_183 : Index := 0#32
  let c6 : Index := 6#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v765 : Index := Scalar.indexCast v33
  ![0, 6, v765.toNat]
def k0_off137 (i : grid0.Coords) (k0_t3 : Fin (k0_t3_loop i).trips) : Fin 3 → Nat :=
  let c1_194 : Index := 1#32
  let c6_195 : Index := 6#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v809 : Index := Scalar.indexCast v33
  ![1, 6, v809.toNat]
def k0_off138 (i : grid0.Coords) (k0_t3 : Fin (k0_t3_loop i).trips) : Fin 3 → Nat :=
  let c2_212 : Index := 2#32
  let c6_213 : Index := 6#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v876 : Index := Scalar.indexCast v33
  ![2, 6, v876.toNat]
def k0_off139 (i : grid0.Coords) (k0_t3 : Fin (k0_t3_loop i).trips) : Fin 2 → Nat :=
  let c288 : Index := 288#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v883 : Index := Scalar.indexCast v33
  ![288, v883.toNat]
def k0_off140 (i : grid0.Coords) (k0_t3 : Fin (k0_t3_loop i).trips) : Fin 3 → Nat :=
  let c0_255 : Index := 0#32
  let c9 : Index := 9#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1048 : Index := Scalar.indexCast v33
  ![0, 9, v1048.toNat]
def k0_off141 (i : grid0.Coords) (k0_t3 : Fin (k0_t3_loop i).trips) : Fin 3 → Nat :=
  let c1_266 : Index := 1#32
  let c9_267 : Index := 9#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1092 : Index := Scalar.indexCast v33
  ![1, 9, v1092.toNat]
def k0_off142 (i : grid0.Coords) (k0_t3 : Fin (k0_t3_loop i).trips) : Fin 3 → Nat :=
  let c2_284 : Index := 2#32
  let c9_285 : Index := 9#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1159 : Index := Scalar.indexCast v33
  ![2, 9, v1159.toNat]
def k0_off143 (i : grid0.Coords) (k0_t3 : Fin (k0_t3_loop i).trips) : Fin 2 → Nat :=
  let c384 : Index := 384#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1166 : Index := Scalar.indexCast v33
  ![384, v1166.toNat]
def k0_off144 (i : grid0.Coords) (k0_t3 : Fin (k0_t3_loop i).trips) : Fin 3 → Nat :=
  let c0_326 : Index := 0#32
  let c12 : Index := 12#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1331 : Index := Scalar.indexCast v33
  ![0, 12, v1331.toNat]
def k0_off145 (i : grid0.Coords) (k0_t3 : Fin (k0_t3_loop i).trips) : Fin 3 → Nat :=
  let c1_337 : Index := 1#32
  let c12_338 : Index := 12#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1375 : Index := Scalar.indexCast v33
  ![1, 12, v1375.toNat]
def k0_off146 (i : grid0.Coords) (k0_t3 : Fin (k0_t3_loop i).trips) : Fin 3 → Nat :=
  let c2_355 : Index := 2#32
  let c12_356 : Index := 12#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1442 : Index := Scalar.indexCast v33
  ![2, 12, v1442.toNat]
def k0_off147 (i : grid0.Coords) (k0_t3 : Fin (k0_t3_loop i).trips) : Fin 2 → Nat :=
  let c480 : Index := 480#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1449 : Index := Scalar.indexCast v33
  ![480, v1449.toNat]
def k0_off148 (i : grid0.Coords) (k0_t3 : Fin (k0_t3_loop i).trips) : Fin 3 → Nat :=
  let c0_397 : Index := 0#32
  let c15 : Index := 15#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1614 : Index := Scalar.indexCast v33
  ![0, 15, v1614.toNat]
def k0_off149 (i : grid0.Coords) (k0_t3 : Fin (k0_t3_loop i).trips) : Fin 3 → Nat :=
  let c1_408 : Index := 1#32
  let c15_409 : Index := 15#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1658 : Index := Scalar.indexCast v33
  ![1, 15, v1658.toNat]
def k0_off150 (i : grid0.Coords) (k0_t3 : Fin (k0_t3_loop i).trips) : Fin 3 → Nat :=
  let c2_426 : Index := 2#32
  let c15_427 : Index := 15#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1725 : Index := Scalar.indexCast v33
  ![2, 15, v1725.toNat]
def k0_off151 (i : grid0.Coords) (k0_t3 : Fin (k0_t3_loop i).trips) : Fin 2 → Nat :=
  let c576 : Index := 576#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1732 : Index := Scalar.indexCast v33
  ![576, v1732.toNat]
def k0_off152 (i : grid0.Coords) (k0_t3 : Fin (k0_t3_loop i).trips) : Fin 3 → Nat :=
  let c0_469 : Index := 0#32
  let c18 : Index := 18#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1897 : Index := Scalar.indexCast v33
  ![0, 18, v1897.toNat]
def k0_off153 (i : grid0.Coords) (k0_t3 : Fin (k0_t3_loop i).trips) : Fin 3 → Nat :=
  let c1_480 : Index := 1#32
  let c18_481 : Index := 18#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v1941 : Index := Scalar.indexCast v33
  ![1, 18, v1941.toNat]
def k0_off154 (i : grid0.Coords) (k0_t3 : Fin (k0_t3_loop i).trips) : Fin 3 → Nat :=
  let c2_498 : Index := 2#32
  let c18_499 : Index := 18#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2008 : Index := Scalar.indexCast v33
  ![2, 18, v2008.toNat]
def k0_off155 (i : grid0.Coords) (k0_t3 : Fin (k0_t3_loop i).trips) : Fin 2 → Nat :=
  let c672 : Index := 672#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2015 : Index := Scalar.indexCast v33
  ![672, v2015.toNat]
def k0_off156 (i : grid0.Coords) (k0_t3 : Fin (k0_t3_loop i).trips) : Fin 3 → Nat :=
  let c0_540 : Index := 0#32
  let c21 : Index := 21#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2180 : Index := Scalar.indexCast v33
  ![0, 21, v2180.toNat]
def k0_off157 (i : grid0.Coords) (k0_t3 : Fin (k0_t3_loop i).trips) : Fin 3 → Nat :=
  let c1_551 : Index := 1#32
  let c21_552 : Index := 21#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2224 : Index := Scalar.indexCast v33
  ![1, 21, v2224.toNat]
def k0_off158 (i : grid0.Coords) (k0_t3 : Fin (k0_t3_loop i).trips) : Fin 3 → Nat :=
  let c2_569 : Index := 2#32
  let c21_570 : Index := 21#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2291 : Index := Scalar.indexCast v33
  ![2, 21, v2291.toNat]
def k0_off159 (i : grid0.Coords) (k0_t3 : Fin (k0_t3_loop i).trips) : Fin 2 → Nat :=
  let c768 : Index := 768#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2298 : Index := Scalar.indexCast v33
  ![768, v2298.toNat]
def k0_off160 (i : grid0.Coords) (k0_t3 : Fin (k0_t3_loop i).trips) : Fin 3 → Nat :=
  let c0_611 : Index := 0#32
  let c24 : Index := 24#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2463 : Index := Scalar.indexCast v33
  ![0, 24, v2463.toNat]
def k0_off161 (i : grid0.Coords) (k0_t3 : Fin (k0_t3_loop i).trips) : Fin 3 → Nat :=
  let c1_622 : Index := 1#32
  let c24_623 : Index := 24#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2507 : Index := Scalar.indexCast v33
  ![1, 24, v2507.toNat]
def k0_off162 (i : grid0.Coords) (k0_t3 : Fin (k0_t3_loop i).trips) : Fin 3 → Nat :=
  let c2_640 : Index := 2#32
  let c24_641 : Index := 24#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2574 : Index := Scalar.indexCast v33
  ![2, 24, v2574.toNat]
def k0_off163 (i : grid0.Coords) (k0_t3 : Fin (k0_t3_loop i).trips) : Fin 2 → Nat :=
  let c864 : Index := 864#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2581 : Index := Scalar.indexCast v33
  ![864, v2581.toNat]
def k0_off164 (i : grid0.Coords) (k0_t3 : Fin (k0_t3_loop i).trips) : Fin 3 → Nat :=
  let c0_683 : Index := 0#32
  let c27 : Index := 27#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2746 : Index := Scalar.indexCast v33
  ![0, 27, v2746.toNat]
def k0_off165 (i : grid0.Coords) (k0_t3 : Fin (k0_t3_loop i).trips) : Fin 3 → Nat :=
  let c1_694 : Index := 1#32
  let c27_695 : Index := 27#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2790 : Index := Scalar.indexCast v33
  ![1, 27, v2790.toNat]
def k0_off166 (i : grid0.Coords) (k0_t3 : Fin (k0_t3_loop i).trips) : Fin 3 → Nat :=
  let c2_712 : Index := 2#32
  let c27_713 : Index := 27#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2857 : Index := Scalar.indexCast v33
  ![2, 27, v2857.toNat]
def k0_off167 (i : grid0.Coords) (k0_t3 : Fin (k0_t3_loop i).trips) : Fin 2 → Nat :=
  let c960 : Index := 960#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v2864 : Index := Scalar.indexCast v33
  ![960, v2864.toNat]
def k0_off168 (i : grid0.Coords) (k0_t3 : Fin (k0_t3_loop i).trips) : Fin 3 → Nat :=
  let c0_754 : Index := 0#32
  let c30 : Index := 30#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3029 : Index := Scalar.indexCast v33
  ![0, 30, v3029.toNat]
def k0_off169 (i : grid0.Coords) (k0_t3 : Fin (k0_t3_loop i).trips) : Fin 3 → Nat :=
  let c1_765 : Index := 1#32
  let c30_766 : Index := 30#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3073 : Index := Scalar.indexCast v33
  ![1, 30, v3073.toNat]
def k0_off170 (i : grid0.Coords) (k0_t3 : Fin (k0_t3_loop i).trips) : Fin 3 → Nat :=
  let c2_783 : Index := 2#32
  let c30_784 : Index := 30#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3140 : Index := Scalar.indexCast v33
  ![2, 30, v3140.toNat]
def k0_off171 (i : grid0.Coords) (k0_t3 : Fin (k0_t3_loop i).trips) : Fin 2 → Nat :=
  let c1056 : Index := 1056#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3147 : Index := Scalar.indexCast v33
  ![1056, v3147.toNat]
def k0_off172 (i : grid0.Coords) (k0_t3 : Fin (k0_t3_loop i).trips) : Fin 3 → Nat :=
  let c0_825 : Index := 0#32
  let c33 : Index := 33#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3312 : Index := Scalar.indexCast v33
  ![0, 33, v3312.toNat]
def k0_off173 (i : grid0.Coords) (k0_t3 : Fin (k0_t3_loop i).trips) : Fin 3 → Nat :=
  let c1_836 : Index := 1#32
  let c33_837 : Index := 33#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3356 : Index := Scalar.indexCast v33
  ![1, 33, v3356.toNat]
def k0_off174 (i : grid0.Coords) (k0_t3 : Fin (k0_t3_loop i).trips) : Fin 3 → Nat :=
  let c2_854 : Index := 2#32
  let c33_855 : Index := 33#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3423 : Index := Scalar.indexCast v33
  ![2, 33, v3423.toNat]
def k0_off175 (i : grid0.Coords) (k0_t3 : Fin (k0_t3_loop i).trips) : Fin 2 → Nat :=
  let c1152 : Index := 1152#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3430 : Index := Scalar.indexCast v33
  ![1152, v3430.toNat]
def k0_off176 (i : grid0.Coords) (k0_t3 : Fin (k0_t3_loop i).trips) : Fin 3 → Nat :=
  let c0_897 : Index := 0#32
  let c36 : Index := 36#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3595 : Index := Scalar.indexCast v33
  ![0, 36, v3595.toNat]
def k0_off177 (i : grid0.Coords) (k0_t3 : Fin (k0_t3_loop i).trips) : Fin 3 → Nat :=
  let c1_908 : Index := 1#32
  let c36_909 : Index := 36#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3639 : Index := Scalar.indexCast v33
  ![1, 36, v3639.toNat]
def k0_off178 (i : grid0.Coords) (k0_t3 : Fin (k0_t3_loop i).trips) : Fin 3 → Nat :=
  let c2_926 : Index := 2#32
  let c36_927 : Index := 36#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3706 : Index := Scalar.indexCast v33
  ![2, 36, v3706.toNat]
def k0_off179 (i : grid0.Coords) (k0_t3 : Fin (k0_t3_loop i).trips) : Fin 2 → Nat :=
  let c1248 : Index := 1248#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3713 : Index := Scalar.indexCast v33
  ![1248, v3713.toNat]
def k0_off180 (i : grid0.Coords) (k0_t3 : Fin (k0_t3_loop i).trips) : Fin 3 → Nat :=
  let c0_968 : Index := 0#32
  let c39 : Index := 39#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3878 : Index := Scalar.indexCast v33
  ![0, 39, v3878.toNat]
def k0_off181 (i : grid0.Coords) (k0_t3 : Fin (k0_t3_loop i).trips) : Fin 3 → Nat :=
  let c1_979 : Index := 1#32
  let c39_980 : Index := 39#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3922 : Index := Scalar.indexCast v33
  ![1, 39, v3922.toNat]
def k0_off182 (i : grid0.Coords) (k0_t3 : Fin (k0_t3_loop i).trips) : Fin 3 → Nat :=
  let c2_997 : Index := 2#32
  let c39_998 : Index := 39#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3989 : Index := Scalar.indexCast v33
  ![2, 39, v3989.toNat]
def k0_off183 (i : grid0.Coords) (k0_t3 : Fin (k0_t3_loop i).trips) : Fin 2 → Nat :=
  let c1344 : Index := 1344#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v3996 : Index := Scalar.indexCast v33
  ![1344, v3996.toNat]
def k0_off184 (i : grid0.Coords) (k0_t3 : Fin (k0_t3_loop i).trips) : Fin 3 → Nat :=
  let c0_1039 : Index := 0#32
  let c42 : Index := 42#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4161 : Index := Scalar.indexCast v33
  ![0, 42, v4161.toNat]
def k0_off185 (i : grid0.Coords) (k0_t3 : Fin (k0_t3_loop i).trips) : Fin 3 → Nat :=
  let c1_1050 : Index := 1#32
  let c42_1051 : Index := 42#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4205 : Index := Scalar.indexCast v33
  ![1, 42, v4205.toNat]
def k0_off186 (i : grid0.Coords) (k0_t3 : Fin (k0_t3_loop i).trips) : Fin 3 → Nat :=
  let c2_1068 : Index := 2#32
  let c42_1069 : Index := 42#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4272 : Index := Scalar.indexCast v33
  ![2, 42, v4272.toNat]
def k0_off187 (i : grid0.Coords) (k0_t3 : Fin (k0_t3_loop i).trips) : Fin 2 → Nat :=
  let c1440 : Index := 1440#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4279 : Index := Scalar.indexCast v33
  ![1440, v4279.toNat]
def k0_off188 (i : grid0.Coords) (k0_t3 : Fin (k0_t3_loop i).trips) : Fin 3 → Nat :=
  let c0_1111 : Index := 0#32
  let c45 : Index := 45#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4444 : Index := Scalar.indexCast v33
  ![0, 45, v4444.toNat]
def k0_off189 (i : grid0.Coords) (k0_t3 : Fin (k0_t3_loop i).trips) : Fin 3 → Nat :=
  let c1_1122 : Index := 1#32
  let c45_1123 : Index := 45#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4488 : Index := Scalar.indexCast v33
  ![1, 45, v4488.toNat]
def k0_off190 (i : grid0.Coords) (k0_t3 : Fin (k0_t3_loop i).trips) : Fin 3 → Nat :=
  let c2_1140 : Index := 2#32
  let c45_1141 : Index := 45#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4555 : Index := Scalar.indexCast v33
  ![2, 45, v4555.toNat]
def k0_off191 (i : grid0.Coords) (k0_t3 : Fin (k0_t3_loop i).trips) : Fin 2 → Nat :=
  let c1536 : Index := 1536#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4562 : Index := Scalar.indexCast v33
  ![1536, v4562.toNat]
def k0_off192 (i : grid0.Coords) (k0_t3 : Fin (k0_t3_loop i).trips) : Fin 3 → Nat :=
  let c0_1182 : Index := 0#32
  let c48 : Index := 48#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4727 : Index := Scalar.indexCast v33
  ![0, 48, v4727.toNat]
def k0_off193 (i : grid0.Coords) (k0_t3 : Fin (k0_t3_loop i).trips) : Fin 3 → Nat :=
  let c1_1193 : Index := 1#32
  let c48_1194 : Index := 48#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4771 : Index := Scalar.indexCast v33
  ![1, 48, v4771.toNat]
def k0_off194 (i : grid0.Coords) (k0_t3 : Fin (k0_t3_loop i).trips) : Fin 3 → Nat :=
  let c2_1211 : Index := 2#32
  let c48_1212 : Index := 48#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4838 : Index := Scalar.indexCast v33
  ![2, 48, v4838.toNat]
def k0_off195 (i : grid0.Coords) (k0_t3 : Fin (k0_t3_loop i).trips) : Fin 2 → Nat :=
  let c1632 : Index := 1632#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v4845 : Index := Scalar.indexCast v33
  ![1632, v4845.toNat]
def k0_off196 (i : grid0.Coords) (k0_t3 : Fin (k0_t3_loop i).trips) : Fin 3 → Nat :=
  let c0_1253 : Index := 0#32
  let c51 : Index := 51#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5010 : Index := Scalar.indexCast v33
  ![0, 51, v5010.toNat]
def k0_off197 (i : grid0.Coords) (k0_t3 : Fin (k0_t3_loop i).trips) : Fin 3 → Nat :=
  let c1_1264 : Index := 1#32
  let c51_1265 : Index := 51#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5054 : Index := Scalar.indexCast v33
  ![1, 51, v5054.toNat]
def k0_off198 (i : grid0.Coords) (k0_t3 : Fin (k0_t3_loop i).trips) : Fin 3 → Nat :=
  let c2_1282 : Index := 2#32
  let c51_1283 : Index := 51#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5121 : Index := Scalar.indexCast v33
  ![2, 51, v5121.toNat]
def k0_off199 (i : grid0.Coords) (k0_t3 : Fin (k0_t3_loop i).trips) : Fin 2 → Nat :=
  let c1728 : Index := 1728#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5128 : Index := Scalar.indexCast v33
  ![1728, v5128.toNat]
def k0_off200 (i : grid0.Coords) (k0_t3 : Fin (k0_t3_loop i).trips) : Fin 3 → Nat :=
  let c0_1325 : Index := 0#32
  let c54 : Index := 54#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5293 : Index := Scalar.indexCast v33
  ![0, 54, v5293.toNat]
def k0_off201 (i : grid0.Coords) (k0_t3 : Fin (k0_t3_loop i).trips) : Fin 3 → Nat :=
  let c1_1336 : Index := 1#32
  let c54_1337 : Index := 54#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5337 : Index := Scalar.indexCast v33
  ![1, 54, v5337.toNat]
def k0_off202 (i : grid0.Coords) (k0_t3 : Fin (k0_t3_loop i).trips) : Fin 3 → Nat :=
  let c2_1354 : Index := 2#32
  let c54_1355 : Index := 54#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5404 : Index := Scalar.indexCast v33
  ![2, 54, v5404.toNat]
def k0_off203 (i : grid0.Coords) (k0_t3 : Fin (k0_t3_loop i).trips) : Fin 2 → Nat :=
  let c1824 : Index := 1824#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5411 : Index := Scalar.indexCast v33
  ![1824, v5411.toNat]
def k0_off204 (i : grid0.Coords) (k0_t3 : Fin (k0_t3_loop i).trips) : Fin 3 → Nat :=
  let c0_1396 : Index := 0#32
  let c57 : Index := 57#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5576 : Index := Scalar.indexCast v33
  ![0, 57, v5576.toNat]
def k0_off205 (i : grid0.Coords) (k0_t3 : Fin (k0_t3_loop i).trips) : Fin 3 → Nat :=
  let c1_1407 : Index := 1#32
  let c57_1408 : Index := 57#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5620 : Index := Scalar.indexCast v33
  ![1, 57, v5620.toNat]
def k0_off206 (i : grid0.Coords) (k0_t3 : Fin (k0_t3_loop i).trips) : Fin 3 → Nat :=
  let c2_1425 : Index := 2#32
  let c57_1426 : Index := 57#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5687 : Index := Scalar.indexCast v33
  ![2, 57, v5687.toNat]
def k0_off207 (i : grid0.Coords) (k0_t3 : Fin (k0_t3_loop i).trips) : Fin 2 → Nat :=
  let c1920 : Index := 1920#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5694 : Index := Scalar.indexCast v33
  ![1920, v5694.toNat]
def k0_off208 (i : grid0.Coords) (k0_t3 : Fin (k0_t3_loop i).trips) : Fin 3 → Nat :=
  let c0_1467 : Index := 0#32
  let c60 : Index := 60#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5859 : Index := Scalar.indexCast v33
  ![0, 60, v5859.toNat]
def k0_off209 (i : grid0.Coords) (k0_t3 : Fin (k0_t3_loop i).trips) : Fin 3 → Nat :=
  let c1_1478 : Index := 1#32
  let c60_1479 : Index := 60#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5903 : Index := Scalar.indexCast v33
  ![1, 60, v5903.toNat]
def k0_off210 (i : grid0.Coords) (k0_t3 : Fin (k0_t3_loop i).trips) : Fin 3 → Nat :=
  let c2_1496 : Index := 2#32
  let c60_1497 : Index := 60#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5970 : Index := Scalar.indexCast v33
  ![2, 60, v5970.toNat]
def k0_off211 (i : grid0.Coords) (k0_t3 : Fin (k0_t3_loop i).trips) : Fin 2 → Nat :=
  let c2016 : Index := 2016#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v5977 : Index := Scalar.indexCast v33
  ![2016, v5977.toNat]
def k0_off212 (i : grid0.Coords) (k0_t3 : Fin (k0_t3_loop i).trips) : Fin 3 → Nat :=
  let c0_1539 : Index := 0#32
  let c63 : Index := 63#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6142 : Index := Scalar.indexCast v33
  ![0, 63, v6142.toNat]
def k0_off213 (i : grid0.Coords) (k0_t3 : Fin (k0_t3_loop i).trips) : Fin 3 → Nat :=
  let c1_1550 : Index := 1#32
  let c63_1551 : Index := 63#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6186 : Index := Scalar.indexCast v33
  ![1, 63, v6186.toNat]
def k0_off214 (i : grid0.Coords) (k0_t3 : Fin (k0_t3_loop i).trips) : Fin 3 → Nat :=
  let c2_1568 : Index := 2#32
  let c63_1569 : Index := 63#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6253 : Index := Scalar.indexCast v33
  ![2, 63, v6253.toNat]
def k0_off215 (i : grid0.Coords) (k0_t3 : Fin (k0_t3_loop i).trips) : Fin 2 → Nat :=
  let c2112 : Index := 2112#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6260 : Index := Scalar.indexCast v33
  ![2112, v6260.toNat]
def k0_off216 (i : grid0.Coords) (k0_t3 : Fin (k0_t3_loop i).trips) : Fin 3 → Nat :=
  let c0_1610 : Index := 0#32
  let c66 : Index := 66#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6425 : Index := Scalar.indexCast v33
  ![0, 66, v6425.toNat]
def k0_off217 (i : grid0.Coords) (k0_t3 : Fin (k0_t3_loop i).trips) : Fin 3 → Nat :=
  let c1_1621 : Index := 1#32
  let c66_1622 : Index := 66#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6469 : Index := Scalar.indexCast v33
  ![1, 66, v6469.toNat]
def k0_off218 (i : grid0.Coords) (k0_t3 : Fin (k0_t3_loop i).trips) : Fin 3 → Nat :=
  let c2_1639 : Index := 2#32
  let c66_1640 : Index := 66#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6536 : Index := Scalar.indexCast v33
  ![2, 66, v6536.toNat]
def k0_off219 (i : grid0.Coords) (k0_t3 : Fin (k0_t3_loop i).trips) : Fin 2 → Nat :=
  let c2208 : Index := 2208#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6543 : Index := Scalar.indexCast v33
  ![2208, v6543.toNat]
def k0_off220 (i : grid0.Coords) (k0_t3 : Fin (k0_t3_loop i).trips) : Fin 3 → Nat :=
  let c0_1681 : Index := 0#32
  let c69 : Index := 69#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6708 : Index := Scalar.indexCast v33
  ![0, 69, v6708.toNat]
def k0_off221 (i : grid0.Coords) (k0_t3 : Fin (k0_t3_loop i).trips) : Fin 3 → Nat :=
  let c1_1692 : Index := 1#32
  let c69_1693 : Index := 69#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6752 : Index := Scalar.indexCast v33
  ![1, 69, v6752.toNat]
def k0_off222 (i : grid0.Coords) (k0_t3 : Fin (k0_t3_loop i).trips) : Fin 3 → Nat :=
  let c2_1710 : Index := 2#32
  let c69_1711 : Index := 69#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6819 : Index := Scalar.indexCast v33
  ![2, 69, v6819.toNat]
def k0_off223 (i : grid0.Coords) (k0_t3 : Fin (k0_t3_loop i).trips) : Fin 2 → Nat :=
  let c2304 : Index := 2304#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6826 : Index := Scalar.indexCast v33
  ![2304, v6826.toNat]
def k0_off224 (i : grid0.Coords) (k0_t3 : Fin (k0_t3_loop i).trips) : Fin 3 → Nat :=
  let c0_1753 : Index := 0#32
  let c72 : Index := 72#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v6991 : Index := Scalar.indexCast v33
  ![0, 72, v6991.toNat]
def k0_off225 (i : grid0.Coords) (k0_t3 : Fin (k0_t3_loop i).trips) : Fin 3 → Nat :=
  let c1_1764 : Index := 1#32
  let c72_1765 : Index := 72#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7035 : Index := Scalar.indexCast v33
  ![1, 72, v7035.toNat]
def k0_off226 (i : grid0.Coords) (k0_t3 : Fin (k0_t3_loop i).trips) : Fin 3 → Nat :=
  let c2_1782 : Index := 2#32
  let c72_1783 : Index := 72#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7102 : Index := Scalar.indexCast v33
  ![2, 72, v7102.toNat]
def k0_off227 (i : grid0.Coords) (k0_t3 : Fin (k0_t3_loop i).trips) : Fin 2 → Nat :=
  let c2400 : Index := 2400#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7109 : Index := Scalar.indexCast v33
  ![2400, v7109.toNat]
def k0_off228 (i : grid0.Coords) (k0_t3 : Fin (k0_t3_loop i).trips) : Fin 3 → Nat :=
  let c0_1824 : Index := 0#32
  let c75 : Index := 75#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7274 : Index := Scalar.indexCast v33
  ![0, 75, v7274.toNat]
def k0_off229 (i : grid0.Coords) (k0_t3 : Fin (k0_t3_loop i).trips) : Fin 3 → Nat :=
  let c1_1835 : Index := 1#32
  let c75_1836 : Index := 75#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7318 : Index := Scalar.indexCast v33
  ![1, 75, v7318.toNat]
def k0_off230 (i : grid0.Coords) (k0_t3 : Fin (k0_t3_loop i).trips) : Fin 3 → Nat :=
  let c2_1853 : Index := 2#32
  let c75_1854 : Index := 75#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7385 : Index := Scalar.indexCast v33
  ![2, 75, v7385.toNat]
def k0_off231 (i : grid0.Coords) (k0_t3 : Fin (k0_t3_loop i).trips) : Fin 2 → Nat :=
  let c2496 : Index := 2496#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7392 : Index := Scalar.indexCast v33
  ![2496, v7392.toNat]
def k0_off232 (i : grid0.Coords) (k0_t3 : Fin (k0_t3_loop i).trips) : Fin 3 → Nat :=
  let c0_1895 : Index := 0#32
  let c78 : Index := 78#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7557 : Index := Scalar.indexCast v33
  ![0, 78, v7557.toNat]
def k0_off233 (i : grid0.Coords) (k0_t3 : Fin (k0_t3_loop i).trips) : Fin 3 → Nat :=
  let c1_1906 : Index := 1#32
  let c78_1907 : Index := 78#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7601 : Index := Scalar.indexCast v33
  ![1, 78, v7601.toNat]
def k0_off234 (i : grid0.Coords) (k0_t3 : Fin (k0_t3_loop i).trips) : Fin 3 → Nat :=
  let c2_1924 : Index := 2#32
  let c78_1925 : Index := 78#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7668 : Index := Scalar.indexCast v33
  ![2, 78, v7668.toNat]
def k0_off235 (i : grid0.Coords) (k0_t3 : Fin (k0_t3_loop i).trips) : Fin 2 → Nat :=
  let c2592 : Index := 2592#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7675 : Index := Scalar.indexCast v33
  ![2592, v7675.toNat]
def k0_off236 (i : grid0.Coords) (k0_t3 : Fin (k0_t3_loop i).trips) : Fin 3 → Nat :=
  let c0_1967 : Index := 0#32
  let c81 : Index := 81#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7840 : Index := Scalar.indexCast v33
  ![0, 81, v7840.toNat]
def k0_off237 (i : grid0.Coords) (k0_t3 : Fin (k0_t3_loop i).trips) : Fin 3 → Nat :=
  let c1_1978 : Index := 1#32
  let c81_1979 : Index := 81#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7884 : Index := Scalar.indexCast v33
  ![1, 81, v7884.toNat]
def k0_off238 (i : grid0.Coords) (k0_t3 : Fin (k0_t3_loop i).trips) : Fin 3 → Nat :=
  let c2_1996 : Index := 2#32
  let c81_1997 : Index := 81#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7951 : Index := Scalar.indexCast v33
  ![2, 81, v7951.toNat]
def k0_off239 (i : grid0.Coords) (k0_t3 : Fin (k0_t3_loop i).trips) : Fin 2 → Nat :=
  let c2688 : Index := 2688#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v7958 : Index := Scalar.indexCast v33
  ![2688, v7958.toNat]
def k0_off240 (i : grid0.Coords) (k0_t3 : Fin (k0_t3_loop i).trips) : Fin 3 → Nat :=
  let c0_2038 : Index := 0#32
  let c84 : Index := 84#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v8123 : Index := Scalar.indexCast v33
  ![0, 84, v8123.toNat]
def k0_off241 (i : grid0.Coords) (k0_t3 : Fin (k0_t3_loop i).trips) : Fin 3 → Nat :=
  let c1_2049 : Index := 1#32
  let c84_2050 : Index := 84#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v8167 : Index := Scalar.indexCast v33
  ![1, 84, v8167.toNat]
def k0_off242 (i : grid0.Coords) (k0_t3 : Fin (k0_t3_loop i).trips) : Fin 3 → Nat :=
  let c2_2067 : Index := 2#32
  let c84_2068 : Index := 84#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v8234 : Index := Scalar.indexCast v33
  ![2, 84, v8234.toNat]
def k0_off243 (i : grid0.Coords) (k0_t3 : Fin (k0_t3_loop i).trips) : Fin 2 → Nat :=
  let c2784 : Index := 2784#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v8241 : Index := Scalar.indexCast v33
  ![2784, v8241.toNat]
def k0_off244 (i : grid0.Coords) (k0_t3 : Fin (k0_t3_loop i).trips) : Fin 3 → Nat :=
  let c0_2109 : Index := 0#32
  let c87 : Index := 87#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v8406 : Index := Scalar.indexCast v33
  ![0, 87, v8406.toNat]
def k0_off245 (i : grid0.Coords) (k0_t3 : Fin (k0_t3_loop i).trips) : Fin 3 → Nat :=
  let c1_2120 : Index := 1#32
  let c87_2121 : Index := 87#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v8450 : Index := Scalar.indexCast v33
  ![1, 87, v8450.toNat]
def k0_off246 (i : grid0.Coords) (k0_t3 : Fin (k0_t3_loop i).trips) : Fin 3 → Nat :=
  let c2_2138 : Index := 2#32
  let c87_2139 : Index := 87#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v8517 : Index := Scalar.indexCast v33
  ![2, 87, v8517.toNat]
def k0_off247 (i : grid0.Coords) (k0_t3 : Fin (k0_t3_loop i).trips) : Fin 2 → Nat :=
  let c0_2141 : Index := 0#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v8526 : Index := Scalar.indexCast v33
  ![0, v8526.toNat]
def k0_off248 (i : grid0.Coords) (k0_t3 : Fin (k0_t3_loop i).trips) : Fin 2 → Nat :=
  let c0_2142 : Index := 0#32
  let c0_i32_8 : BitVec 32 := 0#32
  let c5_i32 : BitVec 32 := 5#32
  let c5760_i32 : BitVec 32 := 5760#32
  let arg0 : BitVec 32 := BitVec.ofNat 32 (i 0).val
  let c1280_i32 : BitVec 32 := 1280#32
  let v3 : BitVec 32 := Scalar.muli arg0 c1280_i32
  let v4 : BitVec 32 := Scalar.subi c5760_i32 v3
  let c256_i32 : BitVec 32 := 256#32
  let v5 : BitVec 32 := Scalar.addi v4 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let v24 : BitVec 32 := Scalar.minsi c5_i32 v23
  let v25 : BitVec 32 := Scalar.subi v24 c0_i32_8
  let c1_i32_10 : BitVec 32 := 1#32
  let v27 : BitVec 32 := Scalar.divsi v25 c1_i32_10
  let v28 : BitVec 32 := Scalar.muli v27 c1_i32_10
  let v29 : BitVec 32 := Scalar.addi c0_i32_8 v28
  let c1_i32_12 : BitVec 32 := 1#32
  let arg7 : BitVec 32 := Scf.iv v29 c1_i32_12 k0_t3
  let c256_i32_13 : BitVec 32 := 256#32
  let v32 : BitVec 32 := Scalar.muli arg7 c256_i32_13
  let v33 : BitVec 32 := v32
  let v8530 : Index := Scalar.indexCast v33
  ![0, v8530.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2880x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2880x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x90x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1440x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S90x1280 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x128x2880 : Shape := ⟨3, ![2, 128, 2880]⟩
abbrev S5760x2880 : Shape := ⟨2, ![5760, 2880]⟩
abbrev S256x90x32 : Shape := ⟨3, ![256, 90, 32]⟩
abbrev S90x32x32 : Shape := ⟨3, ![90, 32, 32]⟩
abbrev S_ : Shape := ⟨0, ![]⟩
abbrev S5760x90x32 : Shape := ⟨3, ![5760, 90, 32]⟩
abbrev S5760x90 : Shape := ⟨2, ![5760, 90]⟩
abbrev S254 : Shape := ⟨1, ![254]⟩
abbrev S5760x90x1 : Shape := ⟨3, ![5760, 90, 1]⟩
abbrev S1x1x254 : Shape := ⟨3, ![1, 1, 254]⟩
abbrev S5760x90x254 : Shape := ⟨3, ![5760, 90, 254]⟩
abbrev S3 : Shape := ⟨1, ![3]⟩
abbrev S1x1x3 : Shape := ⟨3, ![1, 1, 3]⟩
abbrev S5760x90x3 : Shape := ⟨3, ![5760, 90, 3]⟩
abbrev S5760x90x32x1 : Shape := ⟨4, ![5760, 90, 32, 1]⟩
abbrev S5760x90x1x3 : Shape := ⟨4, ![5760, 90, 1, 3]⟩
abbrev S5760x90x32x3 : Shape := ⟨4, ![5760, 90, 32, 3]⟩
abbrev S90x32x5760x3 : Shape := ⟨4, ![90, 32, 5760, 3]⟩
abbrev S5760x1440 : Shape := ⟨2, ![5760, 1440]⟩
abbrev S3x90x5760 : Shape := ⟨3, ![3, 90, 5760]⟩
abbrev S1440x5760 : Shape := ⟨2, ![1440, 5760]⟩
abbrev S90x5760 : Shape := ⟨2, ![90, 5760]⟩

abbrev nBuf : Space → Nat
  | .hbm => 156
  | .vmem => 0
  | .smem => 0
  | _ => 0

abbrev hbmTy0_0 (i : Nat) : BufTy := match i % 128 with
  | 0 => ⟨S2x128x2880, .bf16⟩
  | 1 => ⟨S5760x2880, .bf16⟩
  | 2 => ⟨S256x90x32, .bf16⟩
  | 3 => ⟨S90x32x32, .f32⟩
  | 4 => ⟨S_, .f32⟩
  | 5 => ⟨S90x32x32, .f32⟩
  | 6 => ⟨S90x32x32, .f32⟩
  | 7 => ⟨S5760x2880, .f32⟩
  | 8 => ⟨S5760x90x32, .f32⟩
  | 9 => ⟨S5760x90x32, .f32⟩
  | 10 => ⟨S_, .f32⟩
  | 11 => ⟨S5760x90, .f32⟩
  | 12 => ⟨S254, .i32⟩
  | 13 => ⟨S254, .f32⟩
  | 14 => ⟨S_, .f32⟩
  | 15 => ⟨S254, .f32⟩
  | 16 => ⟨S254, .f32⟩
  | 17 => ⟨S_, .f32⟩
  | 18 => ⟨S254, .f32⟩
  | 19 => ⟨S254, .f32⟩
  | 20 => ⟨S5760x90x1, .f32⟩
  | 21 => ⟨S1x1x254, .f32⟩
  | 22 => ⟨S5760x90x254, .f32⟩
  | 23 => ⟨S5760x90x254, .f32⟩
  | 24 => ⟨S5760x90x254, .i1⟩
  | 25 => ⟨S5760x90x254, .i32⟩
  | 26 => ⟨S_, .i32⟩
  | 27 => ⟨S5760x90, .i32⟩
  | 28 => ⟨S_, .i32⟩
  | 29 => ⟨S5760x90, .i32⟩
  | 30 => ⟨S5760x90, .i32⟩
  | 31 => ⟨S_, .f32⟩
  | 32 => ⟨S5760x90, .f32⟩
  | 33 => ⟨S5760x90, .i1⟩
  | 34 => ⟨S_, .i32⟩
  | 35 => ⟨S5760x90, .i32⟩
  | 36 => ⟨S5760x90, .i32⟩
  | 37 => ⟨S_, .i32⟩
  | 38 => ⟨S_, .i32⟩
  | 39 => ⟨S5760x90, .i32⟩
  | 40 => ⟨S5760x90, .i32⟩
  | 41 => ⟨S5760x90x1, .i32⟩
  | 42 => ⟨S3, .i32⟩
  | 43 => ⟨S_, .i32⟩
  | 44 => ⟨S3, .i32⟩
  | 45 => ⟨S3, .i32⟩
  | 46 => ⟨S1x1x3, .i32⟩
  | 47 => ⟨S5760x90x3, .i32⟩
  | 48 => ⟨S5760x90x3, .i32⟩
  | 49 => ⟨S5760x90x3, .i32⟩
  | 50 => ⟨S5760x90x32x1, .f32⟩
  | 51 => ⟨S5760x90x3, .f32⟩
  | 52 => ⟨S5760x90x3, .f32⟩
  | 53 => ⟨S_, .f32⟩
  | 54 => ⟨S5760x90x3, .f32⟩
  | 55 => ⟨S5760x90x3, .f32⟩
  | 56 => ⟨S5760x90x1x3, .f32⟩
  | 57 => ⟨S5760x90x32x3, .f32⟩
  | 58 => ⟨S5760x90x32x3, .f32⟩
  | 59 => ⟨S5760x90x32x3, .f32⟩
  | 60 => ⟨S5760x90x32x3, .f32⟩
  | 61 => ⟨S_, .f32⟩
  | 62 => ⟨S5760x90x32x3, .f32⟩
  | 63 => ⟨S5760x90x32x3, .f32⟩
  | 64 => ⟨S_, .f32⟩
  | 65 => ⟨S5760x90x32x3, .f32⟩
  | 66 => ⟨S5760x90x32x3, .i1⟩
  | 67 => ⟨S_, .f32⟩
  | 68 => ⟨S5760x90x32x3, .f32⟩
  | 69 => ⟨S5760x90x32x3, .f32⟩
  | 70 => ⟨S5760x90x32x3, .f32⟩
  | 71 => ⟨S_, .f32⟩
  | 72 => ⟨S5760x90x32x3, .f32⟩
  | 73 => ⟨S5760x90x32x3, .f32⟩
  | 74 => ⟨S_, .f32⟩
  | 75 => ⟨S5760x90x32x3, .f32⟩
  | 76 => ⟨S5760x90x32x3, .i1⟩
  | 77 => ⟨S5760x90x32x3, .f32⟩
  | 78 => ⟨S_, .f32⟩
  | 79 => ⟨S5760x90x32x3, .f32⟩
  | 80 => ⟨S5760x90x32x3, .f32⟩
  | 81 => ⟨S5760x90x32x3, .f32⟩
  | 82 => ⟨S_, .f32⟩
  | 83 => ⟨S5760x90x32x3, .f32⟩
  | 84 => ⟨S5760x90x32x3, .f32⟩
  | 85 => ⟨S5760x90x32x3, .f32⟩
  | 86 => ⟨S5760x90x32x3, .f32⟩
  | 87 => ⟨S5760x90x32x3, .f32⟩
  | 88 => ⟨S5760x90x32x3, .f32⟩
  | 89 => ⟨S5760x90x3, .f32⟩
  | 90 => ⟨S_, .f32⟩
  | 91 => ⟨S5760x90x3, .f32⟩
  | 92 => ⟨S5760x90x3, .f32⟩
  | 93 => ⟨S5760x90x1x3, .f32⟩
  | 94 => ⟨S5760x90x32x3, .f32⟩
  | 95 => ⟨S5760x90x32x3, .f32⟩
  | 96 => ⟨S5760x90x32x1, .f32⟩
  | 97 => ⟨S5760x90x32x3, .f32⟩
  | 98 => ⟨S5760x90x32x3, .f32⟩
  | 99 => ⟨S90x32x5760x3, .f32⟩
  | 100 => ⟨S5760x90x32x3, .f32⟩
  | 101 => ⟨S5760x90x3, .f32⟩
  | 102 => ⟨S5760x90x32x1, .f32⟩
  | 103 => ⟨S5760x90x32, .f32⟩
  | 104 => ⟨S5760x90x32x1, .f32⟩
  | 105 => ⟨S5760x90x32, .f32⟩
  | 106 => ⟨S_, .f32⟩
  | 107 => ⟨S5760x90x32, .f32⟩
  | 108 => ⟨S5760x90x32, .i1⟩
  | 109 => ⟨S_, .f32⟩
  | 110 => ⟨S5760x90x32, .f32⟩
  | 111 => ⟨S5760x90x32, .f32⟩
  | 112 => ⟨S_, .f32⟩
  | 113 => ⟨S5760x90x32, .f32⟩
  | 114 => ⟨S5760x90x32, .i1⟩
  | 115 => ⟨S_, .f32⟩
  | 116 => ⟨S5760x90x32, .f32⟩
  | 117 => ⟨S5760x90x32, .f32⟩
  | 118 => ⟨S_, .f32⟩
  | 119 => ⟨S5760x90x32, .f32⟩
  | 120 => ⟨S5760x90x32, .f32⟩
  | 121 => ⟨S_, .f32⟩
  | 122 => ⟨S5760x90x32, .f32⟩
  | 123 => ⟨S5760x90x32, .f32⟩
  | 124 => ⟨S5760x90x32, .f32⟩
  | 125 => ⟨S5760x90x32, .f32⟩
  | 126 => ⟨S5760x90x32, .i32⟩
  | 127 => ⟨S_, .f32⟩
  | _ => ⟨S2x128x2880, .bf16⟩

abbrev hbmTy0_1 (i : Nat) : BufTy := match i % 128 with
  | 0 => ⟨S5760x90x32, .f32⟩
  | 1 => ⟨S5760x90x32, .i1⟩
  | 2 => ⟨S_, .f32⟩
  | 3 => ⟨S5760x90x32, .f32⟩
  | 4 => ⟨S5760x90x32, .i1⟩
  | 5 => ⟨S5760x90x32, .i1⟩
  | 6 => ⟨S_, .i32⟩
  | 7 => ⟨S_, .i32⟩
  | 8 => ⟨S5760x90x32, .i32⟩
  | 9 => ⟨S5760x90x32, .i32⟩
  | 10 => ⟨S5760x90x32, .i32⟩
  | 11 => ⟨S5760x90x32, .i32⟩
  | 12 => ⟨S5760x90x32, .i32⟩
  | 13 => ⟨S5760x2880, .i32⟩
  | 14 => ⟨S5760x1440, .i32⟩
  | 15 => ⟨S5760x1440, .i32⟩
  | 16 => ⟨S_, .i32⟩
  | 17 => ⟨S5760x1440, .i32⟩
  | 18 => ⟨S5760x1440, .i32⟩
  | 19 => ⟨S5760x1440, .i32⟩
  | 20 => ⟨S5760x1440, .i8⟩
  | 21 => ⟨S_, .i32⟩
  | 22 => ⟨S5760x90, .i32⟩
  | 23 => ⟨S5760x90, .i32⟩
  | 24 => ⟨S5760x90, .i8⟩
  | 25 => ⟨S3x90x5760, .f32⟩
  | 26 => ⟨S1440x5760, .i8⟩
  | 27 => ⟨S90x5760, .i8⟩
  | _ => ⟨S2x128x2880, .bf16⟩

abbrev hbmTy (i : Nat) : BufTy := match i / 128 with
  | 0 => hbmTy0_0 i
  | 1 => hbmTy0_1 i
  | _ => ⟨S2x128x2880, .bf16⟩

abbrev bufTy : (tb : Table) → Fin (tcTables nBuf tb) → BufTy
  | .hbm, ⟨i, _⟩ => hbmTy i
  | _, _ => ⟨S2x128x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_14 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_17 : Ref sig .tc := ⟨.hbm, 106, rfl⟩
abbrev main_v83 : Ref sig .tc := ⟨.hbm, 107, rfl⟩
abbrev main_v84 : Ref sig .tc := ⟨.hbm, 108, rfl⟩
abbrev main_cst_18 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_cst_21 : Ref sig .tc := ⟨.hbm, 118, rfl⟩
abbrev main_v91 : Ref sig .tc := ⟨.hbm, 119, rfl⟩
abbrev main_v92 : Ref sig .tc := ⟨.hbm, 120, rfl⟩
abbrev main_cst_22 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_23 : Ref sig .tc := ⟨.hbm, 127, rfl⟩
abbrev main_v98 : Ref sig .tc := ⟨.hbm, 128, rfl⟩
abbrev main_v99 : Ref sig .tc := ⟨.hbm, 129, rfl⟩
abbrev main_cst_24 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_25 : Ref sig .tc := ⟨.hbm, 134, rfl⟩
abbrev main_c_26 : Ref sig .tc := ⟨.hbm, 135, rfl⟩
abbrev main_call8_v0 : Ref sig .tc := ⟨.hbm, 136, rfl⟩
abbrev main_call8_v1 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_27 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_c_28 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩

abbrev nD : Nat := 1
abbrev τ : Topo := Topo.v7x

variable {F : FTy → Type} [FloatOps F]
-- ==== Proof.Kernel.Frame.lean ====
/-
  The frame of `Kernel`: one pipelined region of five points over five windows (the activations, the weights, and the three
  results), with one scratch buffer carried from point to point. The body is run once by `sl_exec`, its three counted loops by
  their generated invariants; nothing here reads what the windows or the scratch hold, so every window is forgotten
  (Lib/Pipeline/Dat.lean `Dat.toRForget`) and the invariant between points is the scratch at some contents.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The scratch buffer, whole. -/
abbrev scM : Memref sig .tc .vmem S30x128x256 .bf16 := Memref.whole cc0_scratch0

/-- The invariant between the points: the scratch at some contents, the generator register at some state. -/
theorem PhiA0_eq (c : Dev nD) :
    (Pipeline.ΦA (Val := Elt F) (U := UR sig nD τ) spec0 c : sProp 𝕄)
      = iprop(iprop((∃ d, owns (c : Thread nD τ) scM fullShare d)) ∗ (∃ r, prngReg c r)) := by
  unfold Pipeline.ΦA
  rw [scopedRest0_eq]; simp only [scM, owns_whole]; try rfl

/-- The body's triple, for any continuation: from every staging memref and the scratch at anything the kernel runs to its return,
    handing each back at some contents. -/
theorem kernelRun (c : Dev nD) (i : grid0.Coords)
    (arg1 : Memref sig .tc .vmem S2x2880x128 .bf16) (harg1 : arg1.IsWhole) (arg2 : Memref sig .tc .vmem S2880x1280 .bf16) (harg2 : arg2.IsWhole)
    (arg3 : Memref sig .tc .vmem S3x90x1280 .f32) (harg3 : arg3.IsWhole) (arg4 : Memref sig .tc .vmem S1440x1280 .i8) (harg4 : arg4.IsWhole)
    (arg5 : Memref sig .tc .vmem S90x1280 .i8) (harg5 : arg5.IsWhole) (arg6 : Memref sig .tc .vmem S30x128x256 .bf16) (harg6 : arg6.IsWhole)
    (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)) -∗ K ⟨⟩))
      ⊢ wp frame (wpE (defs₀ (F := F)) Variants.none c none) Set.univ
          (cc0_mxfp4_search i arg1 harg1 arg2 harg2 arg3 harg3 arg4 harg4 arg5 harg5 arg6 harg6) K := by
  simp only [cc0_mxfp4_search_eq_skeleton]; unfold cc0_mxfp4_search_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  by_cases hc : k0_cond1 i = 1#1
  all_goals
    sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

/-- Every window is forgotten: nothing here reads what the kernel leaves in one. -/
def forgets0 : Fin 5 → Bool := fun _ => true

/-- The proof data on core `c`: the arrays as the region finds them; what the body leaves unnamed; full shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns: every staging memref owned at some contents. -/
def bodyInv (c : Dev nD) (t : Fin cfg0.N) (n : Fin (cfg0.N + 1)) : sProp 𝕄 :=
  iprop((dats m 0 c).Φ n ∗ (dats m 0 c).owesAt () n
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d))

theorem sound_body (c : Dev nD) (t : Fin cfg0.N) :
    bodyInv m c t t.castSucc ⊢ wp frame (wpE (defs₀ (F := F)) Variants.none c none) Set.univ (bodyAt0 t) (fun _ => bodyInv m c t t.succ) := by
  unfold bodyInv bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨HS, Hg⟩, HO, H0, H1, H2, H3, H4⟩
  iapply (kernelRun c (grid0.coords t) _ _ _ _ _ _ _ _ _ _ _ _ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters: every weakly fair execution of @main terminates, every unscoped buffer that is no window's
    array — the arguments among them — is left at its launch contents, and every semaphore counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The arguments are as launched and the counters at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main m ρ)

end Cert.Kernel.Hand

end
-- ==== Proof.KernelIdeal.Frame.lean ====
/-
  The frame of `KernelIdeal`: one pipelined region of five points over five windows (the activations, the weights, and the three
  results), with one scratch buffer carried from point to point. The body is run once by `sl_exec`, its three counted loops by
  their generated invariants; nothing here reads what the windows or the scratch hold, so every window is forgotten
  (Lib/Pipeline/Dat.lean `Dat.toRForget`) and the invariant between points is the scratch at some contents.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The scratch buffer, whole. -/
abbrev scM : Memref sig .tc .vmem S30x128x256 .bf16 := Memref.whole cc0_scratch0

/-- The invariant between the points: the scratch at some contents, the generator register at some state. -/
theorem PhiA0_eq (c : Dev nD) :
    (Pipeline.ΦA (Val := Elt F) (U := UR sig nD τ) spec0 c : sProp 𝕄)
      = iprop(iprop((∃ d, owns (c : Thread nD τ) scM fullShare d)) ∗ (∃ r, prngReg c r)) := by
  unfold Pipeline.ΦA
  rw [scopedRest0_eq]; simp only [scM, owns_whole]; try rfl

/-- The body's triple, for any continuation: from every staging memref and the scratch at anything the kernel runs to its return,
    handing each back at some contents. -/
theorem kernelRun (c : Dev nD) (i : grid0.Coords)
    (arg1 : Memref sig .tc .vmem S2x2880x128 .bf16) (harg1 : arg1.IsWhole) (arg2 : Memref sig .tc .vmem S2880x1280 .bf16) (harg2 : arg2.IsWhole)
    (arg3 : Memref sig .tc .vmem S3x90x1280 .f32) (harg3 : arg3.IsWhole) (arg4 : Memref sig .tc .vmem S1440x1280 .i8) (harg4 : arg4.IsWhole)
    (arg5 : Memref sig .tc .vmem S90x1280 .i8) (harg5 : arg5.IsWhole) (arg6 : Memref sig .tc .vmem S30x128x256 .bf16) (harg6 : arg6.IsWhole)
    (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)) -∗ K ⟨⟩))
      ⊢ wp frame (wpE (defs₀ (F := F)) Variants.none c none) Set.univ
          (cc0_mxfp4_search i arg1 harg1 arg2 harg2 arg3 harg3 arg4 harg4 arg5 harg5 arg6 harg6) K := by
  simp only [cc0_mxfp4_search_eq_skeleton]; unfold cc0_mxfp4_search_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, Hk⟩
  by_cases hc : k0_cond1 i = 1#1
  all_goals
    sl_exec
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

/-- Every window is forgotten: nothing here reads what the kernel leaves in one. -/
def forgets0 : Fin 5 → Bool := fun _ => true

/-- The proof data on core `c`: the arrays as the region finds them; what the body leaves unnamed; full shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`, and what it returns: every staging memref owned at some contents. -/
def bodyInv (c : Dev nD) (t : Fin cfg0.N) (n : Fin (cfg0.N + 1)) : sProp 𝕄 :=
  iprop((dats m 0 c).Φ n ∗ (dats m 0 c).owesAt () n
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d))

theorem sound_body (c : Dev nD) (t : Fin cfg0.N) :
    bodyInv m c t t.castSucc ⊢ wp frame (wpE (defs₀ (F := F)) Variants.none c none) Set.univ (bodyAt0 t) (fun _ => bodyInv m c t t.succ) := by
  unfold bodyInv bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨HS, Hg⟩, HO, H0, H1, H2, H3, H4⟩
  iapply (kernelRun c (grid0.coords t) _ _ _ _ _ _ _ _ _ _ _ _ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters: every weakly fair execution of @main terminates, every unscoped buffer that is no window's
    array — the arguments among them — is left at its launch contents, and every semaphore counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The arguments are as launched and the counters at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main m ρ)

end Cert.KernelIdeal.Hand

end
-- ==== Proof.Quant.lean ====
/-
  Arithmetic of the four-bit rounding, on the reals. `count a` is the number of the powers 2^-126, …, 2^127 that do not exceed `a`
  (the exponent field of a normal single-precision number of magnitude `a`); `grid u` is the e2m1 magnitude nearest to `u`
  (ties to even) for `u` from 0 to 6, stated piece by piece; `step_round` says that rounding a value to the nearest multiple of half
  its power of two (never finer than one half) and clamping at 6 is that same rounding.
-/
module

public import Idealize.ShloMosaic.Lib.Pointwise

@[expose] public section

noncomputable section

namespace Cert.Mx

open Idealize.ShloMosaic

/-! ## Rounding to the nearest integer, ties to even -/

abbrev rnd (r : ℝ) : ℝ := (Ideal.roundHalfEven r : ℝ)

theorem rnd_le (r : ℝ) : rnd r ≤ r + 1 / 2 := by
  have h1 := Int.floor_le r
  have h2 := Int.lt_floor_add_one r
  unfold rnd Ideal.roundHalfEven
  dsimp only
  split_ifs <;> push_cast <;> linarith

theorem le_rnd (r : ℝ) : r - 1 / 2 ≤ rnd r := by
  have h1 := Int.floor_le r
  have h2 := Int.lt_floor_add_one r
  unfold rnd Ideal.roundHalfEven
  dsimp only
  split_ifs <;> push_cast <;> linarith

theorem rnd_int (n : ℤ) : rnd (n : ℝ) = n := by
  unfold rnd Ideal.roundHalfEven
  simp

/-- An integer is a bound of the rounded value when it is a bound of the value. -/
theorem rnd_ge_int {r : ℝ} {n : ℤ} (h : (n : ℝ) ≤ r) : (n : ℝ) ≤ rnd r := by
  have h0 : n ≤ ⌊r⌋ := Int.le_floor.mpr h
  have h3 : (n : ℝ) ≤ (⌊r⌋ : ℝ) := by exact_mod_cast h0
  unfold rnd Ideal.roundHalfEven
  dsimp only
  split_ifs <;> push_cast <;> linarith

theorem rnd_le_int {r : ℝ} {n : ℤ} (h : r ≤ (n : ℝ)) : rnd r ≤ (n : ℝ) := by
  rcases eq_or_lt_of_le h with h | h
  · rw [h, rnd_int]
  have h0 : ⌊r⌋ < n := Int.floor_lt.mpr h
  have h3 : (⌊r⌋ : ℝ) + 1 ≤ (n : ℝ) := by exact_mod_cast h0
  unfold rnd Ideal.roundHalfEven
  dsimp only
  split_ifs <;> push_cast <;> linarith

theorem rnd_neg (r : ℝ) : rnd (-r) = -rnd r := by
  have h1 := Int.floor_le r
  have h2 := Int.lt_floor_add_one r
  by_cases hi : (⌊r⌋ : ℝ) = r
  · rw [← hi, rnd_int, ← Int.cast_neg, rnd_int]
  have h3 : (⌊r⌋ : ℝ) < r := lt_of_le_of_ne h1 hi
  have hf : ⌊-r⌋ = -⌊r⌋ - 1 := by
    rw [Int.floor_eq_iff]; push_cast; constructor <;> linarith
  unfold rnd Ideal.roundHalfEven
  dsimp only
  rw [hf]
  by_cases he : Even ⌊r⌋
  · have he' : ¬ Even (-⌊r⌋ - 1) := by
      rw [Int.even_sub_one, even_neg]; simpa using he
    simp only [he, he', if_true, if_false]
    split_ifs <;> push_cast at * <;> linarith
  · have he' : Even (-⌊r⌋ - 1) := by
      rw [Int.even_sub_one, even_neg]; exact he
    simp only [he, he', if_true, if_false]
    split_ifs <;> push_cast at * <;> linarith

/-! ## The grid -/

/-- The e2m1 magnitude nearest to `a`, for `0 ≤ a ≤ 6`. -/
def grid (a : ℝ) : ℝ :=
  if a < 2 then rnd (2 * a) * (1 / 2) else if a < 4 then rnd a else 2 * rnd (a * (1 / 2))

theorem grid_nonneg {a : ℝ} (h : 0 ≤ a) : 0 ≤ grid a := by
  unfold grid
  split_ifs
  · have := rnd_ge_int (r := 2 * a) (n := 0) (by push_cast; linarith); push_cast at this; linarith
  · have := rnd_ge_int (r := a) (n := 0) (by push_cast; linarith); push_cast at this; linarith
  · have := rnd_ge_int (r := a * (1 / 2)) (n := 0) (by push_cast; linarith); push_cast at this; linarith

theorem grid_le {a : ℝ} (h : a ≤ 6) : grid a ≤ 6 := by
  unfold grid
  split_ifs with h1 h2
  · have := rnd_le_int (r := 2 * a) (n := 4) (by push_cast; linarith); push_cast at this; linarith
  · have := rnd_le_int (r := a) (n := 4) (by push_cast; linarith); push_cast at this; linarith
  · have := rnd_le_int (r := a * (1 / 2)) (n := 3) (by push_cast; linarith); push_cast at this; linarith

/-- A value's power of two: `k = 2^j ≤ u < 2^(j+1)`, or `k = 0` for a value below 2. -/
def IsPow (u k : ℝ) : Prop := (k = 0 ∧ u < 2) ∨ ∃ j : ℤ, k = (2 : ℝ) ^ j ∧ k ≤ u ∧ u < 2 * k

/-- Rounding `u` to the nearest multiple of half of `max k 1`, and clamping at 6. -/
theorem step_round_nonneg {u k : ℝ} (h0 : 0 ≤ u) (hk : IsPow u k) (h16 : u < 16) :
    min (rnd (u * 2 / max k 1) * (max k 1 / 2)) 6 = grid (min u 6) := by
  -- the four scales
  have hcase : (max k 1 = 1 ∧ u < 2) ∨ (max k 1 = 2 ∧ 2 ≤ u ∧ u < 4) ∨ (max k 1 = 4 ∧ 4 ≤ u ∧ u < 8) ∨ (max k 1 = 8 ∧ 8 ≤ u) := by
    rcases hk with ⟨rfl, h⟩ | ⟨j, hj, h1, h2⟩
    · left; exact ⟨by norm_num, h⟩
    · rcases lt_or_ge j 1 with hj1 | hj1
      · left
        have : k ≤ 1 := by
          rw [hj]; calc (2 : ℝ) ^ j ≤ 2 ^ (0 : ℤ) := zpow_le_zpow_right₀ (by norm_num) (by omega)
            _ = 1 := by norm_num
        exact ⟨max_eq_right this, by linarith⟩
      · have hj4 : j < 4 := by
          by_contra hcon
          have : (2 : ℝ) ^ (4 : ℤ) ≤ 2 ^ j := zpow_le_zpow_right₀ (by norm_num) (by omega)
          rw [← hj] at this; norm_num at this; linarith
        have : j = 1 ∨ j = 2 ∨ j = 3 := by omega
        right
        rcases this with rfl | rfl | rfl
        · left; norm_num at hj; subst hj; exact ⟨by norm_num, h1, by linarith⟩
        · right; left; norm_num at hj; subst hj; exact ⟨by norm_num, h1, by linarith⟩
        · right; right; norm_num at hj; subst hj; exact ⟨by norm_num, h1⟩
  rcases hcase with ⟨hm, h⟩ | ⟨hm, h, h'⟩ | ⟨hm, h, h'⟩ | ⟨hm, h⟩
  · rw [hm, min_eq_left (by linarith : u ≤ 6), min_eq_left]
    · unfold grid; rw [if_pos h]; congr 2; ring
    · have := rnd_le_int (r := u * 2 / 1) (n := 4) (by push_cast; linarith); push_cast at this; linarith
  · rw [hm, min_eq_left (by linarith : u ≤ 6), min_eq_left]
    · unfold grid; rw [if_neg (by linarith), if_pos h']
      rw [show u * 2 / 2 = u by ring]; ring
    · have := rnd_le_int (r := u * 2 / 2) (n := 4) (by push_cast; linarith); push_cast at this; linarith
  · rw [hm]
    rcases le_or_gt u 6 with h6 | h6
    · rw [min_eq_left h6, min_eq_left]
      · unfold grid; rw [if_neg (by linarith), if_neg (by linarith)]
        rw [show u * 2 / 4 = u * (1 / 2) by ring]; ring
      · have := rnd_le_int (r := u * 2 / 4) (n := 3) (by push_cast; linarith); push_cast at this; linarith
    · rw [min_eq_right h6.le]
      have h3 := rnd_ge_int (r := u * 2 / 4) (n := 3) (by push_cast; linarith)
      push_cast at h3
      rw [min_eq_right (by linarith)]
      unfold grid; rw [if_neg (by norm_num), if_neg (by norm_num)]
      have := rnd_int 3; push_cast at this; norm_num [this]
  · rw [hm, min_eq_right (by linarith : (6 : ℝ) ≤ u)]
    have h3 := rnd_ge_int (r := u * 2 / 8) (n := 2) (by push_cast; linarith)
    push_cast at h3
    rw [min_eq_right (by linarith)]
    unfold grid; rw [if_neg (by norm_num), if_neg (by norm_num)]
    have := rnd_int 3; push_cast at this; norm_num [this]

/-- The value of sign `v` and grid magnitude. -/
def quant (v : ℝ) : ℝ := (SignType.sign v : ℝ) * grid (min |v| 6)

/-- Rounding a signed value to the nearest multiple of half of `max k 1`, and clamping to ±6. -/
theorem step_round {v k : ℝ} (hk : IsPow |v| k) (h16 : |v| < 16) :
    min (max (rnd (v * 2 / max k 1) * (max k 1 / 2)) (-6)) 6 = quant v := by
  have hM : 0 < max k 1 := lt_of_lt_of_le one_pos (le_max_right _ _)
  have main := step_round_nonneg (abs_nonneg v) hk h16
  have hnn : 0 ≤ rnd (|v| * 2 / max k 1) * (max k 1 / 2) := by
    have := rnd_ge_int (r := |v| * 2 / max k 1) (n := 0) (by push_cast; positivity)
    push_cast at this; positivity
  unfold quant
  rcases lt_trichotomy v 0 with h | h | h
  · rw [sign_neg h, ← main]
    have hv : v * 2 / max k 1 = -(|v| * 2 / max k 1) := by rw [abs_of_neg h]; ring
    rw [hv, rnd_neg]
    simp only [SignType.coe_neg_one]
    set z := rnd (|v| * 2 / max k 1) * (max k 1 / 2)
    rw [show -rnd (|v| * 2 / max k 1) * (max k 1 / 2) = -z by simp only [z]; ring]
    rw [min_eq_left (by rw [max_le_iff]; constructor <;> linarith)]
    rw [neg_one_mul, ← max_neg_neg]
  · subst h
    have h0 : rnd 0 = 0 := by simpa using rnd_int 0
    simp [h0]
  · rw [sign_pos h, ← main, abs_of_pos h]
    rw [abs_of_pos h] at hnn
    rw [max_eq_left (by linarith)]; simp

/-- Without the clamp, for a value that cannot pass 6. -/
theorem step_round_free {v k : ℝ} (hk : IsPow |v| k) (h4 : |v| < 4) :
    rnd (v * 2 / max k 1) * (max k 1 / 2) = quant v := by
  rw [← step_round hk (by linarith)]
  have hM : 0 < max k 1 := lt_of_lt_of_le one_pos (le_max_right _ _)
  have hM4 : max k 1 ≤ 4 := by
    rcases hk with ⟨rfl, _⟩ | ⟨j, _, h1, _⟩
    · norm_num
    · exact max_le (by linarith) (by norm_num)
  have hb := abs_lt.mp h4
  have e : v * 2 / max k 1 * (max k 1 / 2) = v := by field_simp
  have hu : rnd (v * 2 / max k 1) * (max k 1 / 2) ≤ 6 := by
    have := mul_le_mul_of_nonneg_right (rnd_le (v * 2 / max k 1)) (by positivity : 0 ≤ max k 1 / 2)
    rw [add_mul, e] at this; linarith
  have hl : -6 ≤ rnd (v * 2 / max k 1) * (max k 1 / 2) := by
    have := mul_le_mul_of_nonneg_right (le_rnd (v * 2 / max k 1)) (by positivity : 0 ≤ max k 1 / 2)
    rw [sub_mul, e] at this; linarith
  rw [max_eq_left hl, min_eq_left hu]

/-! ## Exponents -/

/-- The number of the powers 2^-126, …, 2^127 that do not exceed `a`. -/
def count (a : ℝ) : ℕ := (Finset.univ.filter fun k : Fin 254 => (2 : ℝ) ^ ((k.val : ℤ) - 126) ≤ a).card

theorem lt_count_iff (a : ℝ) (e : Fin 254) : e.val < count a ↔ (2 : ℝ) ^ ((e.val : ℤ) - 126) ≤ a := by
  classical
  have hmono : ∀ i j : Fin 254, i ≤ j → (2 : ℝ) ^ ((j.val : ℤ) - 126) ≤ a → (2 : ℝ) ^ ((i.val : ℤ) - 126) ≤ a := by
    intro i j hij hj
    refine le_trans (zpow_le_zpow_right₀ (by norm_num) ?_) hj
    have : i.val ≤ j.val := hij
    omega
  constructor
  · intro h
    by_contra hcon
    have hsub : (Finset.univ.filter fun k : Fin 254 => (2 : ℝ) ^ ((k.val : ℤ) - 126) ≤ a) ⊆ Finset.Iio e := by
      intro k hk
      rw [Finset.mem_Iio]
      by_contra hke
      exact hcon (hmono e k (not_lt.mp hke) (Finset.mem_filter.mp hk).2)
    have := Finset.card_le_card hsub
    rw [Fin.card_Iio] at this
    unfold count at h
    omega
  · intro h
    have hsub : Finset.Iic e ⊆ (Finset.univ.filter fun k : Fin 254 => (2 : ℝ) ^ ((k.val : ℤ) - 126) ≤ a) := by
      intro k hk
      exact Finset.mem_filter.mpr ⟨Finset.mem_univ _, hmono k e (Finset.mem_Iic.mp hk) h⟩
    have := Finset.card_le_card hsub
    rw [Fin.card_Iic] at this
    unfold count
    omega

theorem count_le (a : ℝ) : count a ≤ 254 := by
  have := Finset.card_le_univ (Finset.univ.filter fun k : Fin 254 => (2 : ℝ) ^ ((k.val : ℤ) - 126) ≤ a)
  simpa [count] using this

/-- For an exponent field `e` from 1 to 254. -/
theorem le_count_iff (a : ℝ) {e : ℕ} (h1 : 1 ≤ e) (h2 : e ≤ 254) : e ≤ count a ↔ (2 : ℝ) ^ ((e : ℤ) - 127) ≤ a := by
  have := lt_count_iff a ⟨e - 1, by omega⟩
  dsimp only at this
  rw [show ((e - 1 : ℕ) : ℤ) - 126 = (e : ℤ) - 127 by omega] at this
  rw [← this]; omega

theorem count_mono {a b : ℝ} (h : a ≤ b) : count a ≤ count b :=
  Finset.card_le_card fun k hk => Finset.mem_filter.mpr ⟨Finset.mem_univ _, (Finset.mem_filter.mp hk).2.trans h⟩

/-- The power of an exponent field; zero for the field zero. -/
def pw (e : ℕ) : ℝ := if e = 0 then 0 else (2 : ℝ) ^ ((e : ℤ) - 127)

theorem pw_nonneg (e : ℕ) : 0 ≤ pw e := by unfold pw; split_ifs <;> positivity

theorem pw_mono {a b : ℕ} (h : a ≤ b) : pw a ≤ pw b := by
  unfold pw
  split_ifs with h1 h2
  · rfl
  · positivity
  · omega
  · exact zpow_le_zpow_right₀ (by norm_num) (by omega)

theorem pw_count_le {a : ℝ} (h : 0 ≤ a) : pw (count a) ≤ a := by
  unfold pw
  split_ifs with h1
  · exact h
  · exact (le_count_iff a (by omega) (count_le a)).mp le_rfl

theorem lt_of_count {a : ℝ} (h : a < (2 : ℝ) ^ (128 : ℤ)) : a < (2 : ℝ) ^ ((count a : ℤ) - 126) := by
  rcases Nat.lt_or_ge (count a) 254 with h1 | h1
  · by_contra hcon
    have := (le_count_iff a (e := count a + 1) (by omega) (by omega)).mpr (by
      push_cast; rw [show (count a : ℤ) + 1 - 127 = (count a : ℤ) - 126 by ring]; exact not_lt.mp hcon)
    omega
  · have : count a = 254 := le_antisymm (count_le a) h1
    rw [this, show (((254 : ℕ) : ℤ) - 126) = 128 by norm_num]; exact h

theorem count_pw {e : ℕ} (h : e ≤ 254) : count (pw e) = e := by
  apply le_antisymm
  · by_contra hcon
    have hc : e + 1 ≤ count (pw e) := by omega
    have := (le_count_iff (pw e) (e := e + 1) (by omega) (hc.trans (count_le _))).mp hc
    have h2 : pw e < (2 : ℝ) ^ (((e + 1 : ℕ) : ℤ) - 127) := by
      unfold pw
      split_ifs
      · positivity
      · exact zpow_lt_zpow_right₀ (by norm_num) (by push_cast; omega)
    linarith
  · rcases Nat.eq_zero_or_pos e with h0 | h0
    · omega
    · exact (le_count_iff _ h0 h).mpr (by unfold pw; rw [if_neg (by omega)])

end Cert.Mx

end
-- ==== Proof.Block.lean ====
/-
  One block of 32 weights over the reals: its common exponent, its scaled values, the three candidate exponents of its rounding, and
  the facts the kernel's arithmetic needs (a scaled value is below 8, and its own power of two is the one the rounding wants).
-/
module

public import proofs.«01_k».proof.Proof.Quant

@[expose] public section

noncomputable section

namespace Cert.Mx

open Idealize.ShloMosaic

/-- The block's finite magnitudes; a block is zero or reaches 2^-124. -/
structure Blk (u : Fin 32 → ℝ) : Prop where
  lt : ∀ i, |u i| < (2 : ℝ) ^ (128 : ℤ)
  big : (∀ i, u i = 0) ∨ ∃ i, (2 : ℝ) ^ (-124 : ℤ) ≤ |u i|

/-- The largest exponent field of a block. -/
def topE (u : Fin 32 → ℝ) : ℕ := Finset.univ.sup fun i => count |u i|

/-- The block's exponent: zero for a zero block, else two below the exponent of its largest magnitude. -/
def expo (E : ℕ) : ℤ := if E = 0 then 0 else (E : ℤ) - 129

theorem count_le_topE (u : Fin 32 → ℝ) (i : Fin 32) : count |u i| ≤ topE u :=
  Finset.le_sup (f := fun i => count |u i|) (Finset.mem_univ i)

theorem topE_le (u : Fin 32 → ℝ) : topE u ≤ 254 := Finset.sup_le fun _ _ => count_le _

theorem count_zero : count 0 = 0 := by
  have h : count (pw 0) = 0 := count_pw (e := 0) (by omega)
  simpa [pw] using h

variable {u : Fin 32 → ℝ}

theorem Blk.topE_eq_zero (h : Blk u) (hE : topE u = 0) (i : Fin 32) : u i = 0 := by
  rcases h.big with h0 | ⟨k, hk⟩
  · exact h0 i
  · have h3 : 3 ≤ count |u k| := (le_count_iff _ (e := 3) (by omega) (by omega)).mpr (by norm_num at hk ⊢; exact hk)
    have := count_le_topE u k
    omega

theorem Blk.topE_ge (h : Blk u) : topE u = 0 ∨ 3 ≤ topE u := by
  rcases h.big with h0 | ⟨k, hk⟩
  · left
    refine Nat.le_zero.mp (Finset.sup_le fun i _ => ?_)
    rw [h0 i, abs_zero, count_zero]
  · right
    have h3 : 3 ≤ count |u k| := (le_count_iff _ (e := 3) (by omega) (by omega)).mpr (by norm_num at hk ⊢; exact hk)
    exact h3.trans (count_le_topE u k)

/-- A weight scaled by its block's exponent. -/
def scl (u : Fin 32 → ℝ) (i : Fin 32) : ℝ := u i * (2 : ℝ) ^ (-expo (topE u))

/-- The power of two of a scaled weight. -/
def own (u : Fin 32 → ℝ) (i : Fin 32) : ℝ := pw (count |u i|) * (2 : ℝ) ^ (-expo (topE u))

theorem Blk.abs_scl_lt (h : Blk u) (i : Fin 32) : |scl u i| < 8 := by
  unfold scl
  rw [abs_mul, abs_of_pos (zpow_pos (by norm_num : (0 : ℝ) < 2) _)]
  by_cases hE : topE u = 0
  · rw [h.topE_eq_zero hE]; norm_num
  · have h1 := lt_of_count (h.lt i)
    have h2 : (2 : ℝ) ^ ((count |u i| : ℤ) - 126) ≤ (2 : ℝ) ^ ((topE u : ℤ) - 126) :=
      zpow_le_zpow_right₀ (by norm_num) (by have := count_le_topE u i; omega)
    have h3 : (2 : ℝ) ^ ((topE u : ℤ) - 126) * (2 : ℝ) ^ (-expo (topE u)) = 8 := by
      rw [← zpow_add₀ (by norm_num : (2 : ℝ) ≠ 0)]
      unfold expo
      rw [if_neg hE, show ((topE u : ℤ) - 126 + -((topE u : ℤ) - 129)) = 3 by ring]
      norm_num
    rw [← h3]
    exact mul_lt_mul_of_pos_right (h1.trans_le h2) (zpow_pos (by norm_num) _)

theorem Blk.isPow (h : Blk u) (i : Fin 32) (s : ℤ) (hs : -1 ≤ s) :
    IsPow |scl u i / (2 : ℝ) ^ s| (own u i / (2 : ℝ) ^ s) := by
  have h2 : (2 : ℝ) ≠ 0 := by norm_num
  have hpos : ∀ z : ℤ, (0 : ℝ) < (2 : ℝ) ^ z := fun z => zpow_pos (by norm_num) z
  have habs : |scl u i / (2 : ℝ) ^ s| = |u i| * (2 : ℝ) ^ (-expo (topE u) - s) := by
    unfold scl
    rw [abs_div, abs_mul, abs_of_pos (hpos _), abs_of_pos (hpos _), zpow_sub₀ h2, mul_div_assoc]
  have hown : own u i / (2 : ℝ) ^ s = pw (count |u i|) * (2 : ℝ) ^ (-expo (topE u) - s) := by
    unfold own
    rw [zpow_sub₀ h2, mul_div_assoc]
  rw [habs, hown]
  by_cases hc : count |u i| = 0
  · left
    refine ⟨by simp [hc, pw], ?_⟩
    by_cases hE : topE u = 0
    · rw [h.topE_eq_zero hE]; norm_num
    · have h1 := lt_of_count (h.lt i)
      rw [hc] at h1
      have h3 : (2 : ℝ) ^ (((0 : ℕ) : ℤ) - 126) * (2 : ℝ) ^ (-expo (topE u) - s) ≤ (2 : ℝ) ^ (1 : ℤ) := by
        rw [← zpow_add₀ h2]
        refine zpow_le_zpow_right₀ (by norm_num) ?_
        have := h.topE_ge
        unfold expo
        rw [if_neg hE]
        omega
      calc |u i| * (2 : ℝ) ^ (-expo (topE u) - s) < _ := mul_lt_mul_of_pos_right h1 (hpos _)
        _ ≤ _ := h3
        _ = 2 := by norm_num
  · right
    refine ⟨(count |u i| : ℤ) - 127 + (-expo (topE u) - s), ?_, ?_, ?_⟩
    · unfold pw
      rw [if_neg hc, ← zpow_add₀ h2]
    · exact mul_le_mul_of_nonneg_right (pw_count_le (abs_nonneg _)) (hpos _).le
    · rw [← mul_assoc]
      refine mul_lt_mul_of_pos_right ?_ (hpos _)
      have h1 := lt_of_count (h.lt i)
      unfold pw
      rw [if_neg hc]
      calc |u i| < (2 : ℝ) ^ ((count |u i| : ℤ) - 126) := h1
        _ = (2 : ℝ) ^ (1 + ((count |u i| : ℤ) - 127)) := by congr 1; ring
        _ = 2 * (2 : ℝ) ^ ((count |u i| : ℤ) - 127) := by rw [zpow_add₀ h2]; norm_num

/-- The kernel's rounding with the factor 96 of its own power of two, at the step σ. -/
def kround (v e σ : ℝ) : ℝ := rnd (v * 192 / max (e * 96) (96 * σ)) * (max (e * 96) (96 * σ) / 192)

theorem kround_eq {v e σ : ℝ} (hσ : 0 < σ) :
    kround v e σ = σ * (rnd (v / σ * 2 / max (e / σ) 1) * (max (e / σ) 1 / 2)) := by
  have hm : max (e * 96) (96 * σ) = 96 * σ * max (e / σ) 1 := by
    rw [mul_max_of_nonneg _ _ (by positivity)]
    congr 1
    · field_simp
    · ring
  have hM : 0 < max (e / σ) 1 := lt_of_lt_of_le one_pos (le_max_right _ _)
  unfold kround
  rw [hm]
  have h1 : v * 192 / (96 * σ * max (e / σ) 1) = v / σ * 2 / max (e / σ) 1 := by field_simp; ring
  rw [h1]
  field_simp
  ring

theorem Blk.kround_clip (h : Blk u) (i : Fin 32) (s : ℤ) (hs : -1 ≤ s) :
    min (max (kround (scl u i) (own u i) ((2 : ℝ) ^ s)) (-(6 * (2 : ℝ) ^ s))) (6 * (2 : ℝ) ^ s)
      = (2 : ℝ) ^ s * quant (scl u i / (2 : ℝ) ^ s) := by
  have hpos : (0 : ℝ) < (2 : ℝ) ^ s := zpow_pos (by norm_num) s
  have h16 : |scl u i / (2 : ℝ) ^ s| < 16 := by
    have h8 := h.abs_scl_lt i
    rw [abs_div, abs_of_pos hpos, div_lt_iff₀ hpos]
    have : (2 : ℝ) ^ (-1 : ℤ) ≤ (2 : ℝ) ^ s := zpow_le_zpow_right₀ (by norm_num) hs
    norm_num at this
    linarith
  rw [kround_eq hpos, ← step_round (h.isPow i s hs) h16, mul_min_of_nonneg _ _ hpos.le, mul_max_of_nonneg _ _ hpos.le]
  congr 1
  · congr 1; ring
  · ring

theorem Blk.kround_free (h : Blk u) (i : Fin 32) (s : ℤ) (hs : 1 ≤ s) :
    kround (scl u i) (own u i) ((2 : ℝ) ^ s) = (2 : ℝ) ^ s * quant (scl u i / (2 : ℝ) ^ s) := by
  have hpos : (0 : ℝ) < (2 : ℝ) ^ s := zpow_pos (by norm_num) s
  have h4 : |scl u i / (2 : ℝ) ^ s| < 4 := by
    have h8 := h.abs_scl_lt i
    rw [abs_div, abs_of_pos hpos, div_lt_iff₀ hpos]
    have : (2 : ℝ) ^ (1 : ℤ) ≤ (2 : ℝ) ^ s := zpow_le_zpow_right₀ (by norm_num) hs
    norm_num at this
    linarith
  rw [kround_eq hpos, ← step_round_free (h.isPow i s (by omega)) h4]

/-! ## The two specifications over a block -/

/-- The rounding's remainder of weight `i` at candidate `c`. -/
def dq (u : Fin 32 → ℝ) (c : ℤ) (i : Fin 32) : ℝ :=
  u i - quant (u i * (2 : ℝ) ^ (-(expo (topE u) + c))) * (2 : ℝ) ^ (expo (topE u) + c)

/-- The same remainder of the scaled weight. -/
theorem scl_sub (u : Fin 32 → ℝ) (c : ℤ) (i : Fin 32) :
    (scl u i - (2 : ℝ) ^ c * quant (scl u i / (2 : ℝ) ^ c)) * (2 : ℝ) ^ (expo (topE u)) = dq u c i := by
  have h2 : (2 : ℝ) ≠ 0 := by norm_num
  have h1 : scl u i / (2 : ℝ) ^ c = u i * (2 : ℝ) ^ (-(expo (topE u) + c)) := by
    unfold scl
    rw [neg_add, zpow_add₀ h2, zpow_neg _ c, div_eq_mul_inv, mul_assoc]
  unfold dq
  rw [h1, zpow_add₀ h2, sub_mul]
  congr 1
  · unfold scl
    rw [mul_assoc, ← zpow_add₀ h2]
    simp
  · ring

/-- The error of a block at candidate `c` against its Gram matrix. -/
def errR (H : Fin 32 → Fin 32 → ℝ) (u : Fin 32 → ℝ) (c : ℤ) : ℝ := ∑ i, (∑ j, H i j * dq u c j) * dq u c i

/-- The error from the scaled remainders. -/
theorem errR_of_scl (H : Fin 32 → Fin 32 → ℝ) (u : Fin 32 → ℝ) (c : ℤ) (d : Fin 32 → ℝ)
    (hd : ∀ i, d i = scl u i - (2 : ℝ) ^ c * quant (scl u i / (2 : ℝ) ^ c)) :
    (∑ i, (∑ j, H i j * d j) * d i) * (2 : ℝ) ^ (expo (topE u)) * (2 : ℝ) ^ (expo (topE u)) = errR H u c := by
  unfold errR
  rw [Finset.sum_mul, Finset.sum_mul]
  refine Finset.sum_congr rfl fun i _ => ?_
  rw [← scl_sub u c i, ← hd i]
  have : (∑ j, H i j * dq u c j) = (∑ j, H i j * d j) * (2 : ℝ) ^ (expo (topE u)) := by
    rw [Finset.sum_mul]
    refine Finset.sum_congr rfl fun j _ => ?_
    rw [← scl_sub u c j, ← hd j]
    ring
  rw [this]
  ring

/-- With a symmetric matrix the sums may be taken in the other order. -/
theorem errR_comm (H : Fin 32 → Fin 32 → ℝ) (hH : ∀ i j, H i j = H j i) (u : Fin 32 → ℝ) (c : ℤ) :
    ∑ j, (∑ i, dq u c i * H i j) * dq u c j = errR H u c := by
  unfold errR
  refine Finset.sum_congr rfl fun i _ => ?_
  congr 1
  refine Finset.sum_congr rfl fun j _ => ?_
  rw [hH i j]; ring

/-! ## Codes -/

/-- The three magnitude bits of an e2m1 magnitude `q`. -/
def mag (q : ℝ) : ℝ := if q < 2 then 2 * q else if q < 4 then q + 2 else q * (1 / 2) + 4

theorem mag_eq {q : ℝ} : min (min (2 * q) (q + 2)) (1 / 2 * q + 4) = mag q := by
  unfold mag
  split_ifs with h1 h2
  · rw [min_eq_left (by linarith : 2 * q ≤ q + 2), min_eq_left (by linarith)]
  · rw [min_eq_right (by linarith : q + 2 ≤ 2 * q), min_eq_left (by linarith)]
  · rw [min_eq_right (by linarith : q + 2 ≤ 2 * q), min_eq_right (by linarith)]; ring

theorem abs_quant (v : ℝ) : |quant v| = grid (min |v| 6) := by
  have hg : 0 ≤ grid (min |v| 6) := grid_nonneg (le_min (abs_nonneg _) (by norm_num))
  unfold quant
  rcases lt_trichotomy v 0 with h | h | h
  · rw [sign_neg h]; push_cast; rw [SignType.coe_one, neg_one_mul, abs_neg, abs_of_nonneg hg]
  · subst h
    have : rnd 0 = 0 := by simpa using rnd_int 0
    simp [grid, this]
  · rw [sign_pos h]; push_cast; rw [SignType.coe_one, one_mul, abs_of_nonneg hg]

theorem quant_neg_iff (v : ℝ) : quant v < 0 ↔ v < 0 ∧ grid (min |v| 6) ≠ 0 := by
  have hg : 0 ≤ grid (min |v| 6) := grid_nonneg (le_min (abs_nonneg _) (by norm_num))
  unfold quant
  rcases lt_trichotomy v 0 with h | h | h
  · rw [sign_neg h]; push_cast
    rw [SignType.coe_one, neg_one_mul, neg_lt_zero]
    exact ⟨fun h' => ⟨h, h'.ne'⟩, fun h' => lt_of_le_of_ne hg (Ne.symm h'.2)⟩
  · subst h; simp
  · rw [sign_pos h]; push_cast; rw [SignType.coe_one, one_mul]
    exact ⟨fun h' => absurd h' (not_lt.mpr hg), fun h' => absurd h'.1 (not_lt.mpr h.le)⟩

end Cert.Mx

end
-- ==== Proof.Words.lean ====
/-
  Exponent words: the 32-bit words `e * 2^23` read as single-precision numbers, and the bit-by-bit search for the largest such word
  that does not exceed a given magnitude.
-/
module

public import proofs.«01_k».proof.Proof.Block
public import proofs.«01_k».proof.Proof.Gen.KernelIdeal.Skeleton

@[expose] public section

noncomputable section

namespace Cert.Mx

open Idealize.ShloMosaic

/-- The word whose exponent field is `e`. -/
def W (e : ℕ) : BitVec 32 := BitVec.ofNat 32 (e * 2 ^ 23)

theorem W_toNat {e : ℕ} (h : e ≤ 256) : (W e).toNat = e * 2 ^ 23 := by
  unfold W
  rw [BitVec.toNat_ofNat, Nat.mod_eq_of_lt (by omega)]

theorem W_add (a b : ℕ) : W a + W b = W (a + b) := by
  unfold W
  rw [← BitVec.ofNat_add, ← add_mul]

theorem ieee_W {e : ℕ} (h : e ≤ 255) : Ideal.ieee 8 23 (W e) = if e = 255 then ⊤ else ((pw e : ℝ) : EReal) := by
  have ht := W_toNat (e := e) (by omega)
  have hs : ((W e).extractLsb' (8 + 23) 1 == 1#1) = false := by
    rw [beq_eq_false_iff_ne]
    intro hc
    have := congrArg BitVec.toNat hc
    rw [BitVec.extractLsb'_toNat, ht] at this
    simp only [Nat.shiftRight_eq_div_pow] at this
    norm_num at this
    omega
  have hx : ((W e).extractLsb' 23 8).toNat = e := by
    rw [BitVec.extractLsb'_toNat, ht]
    simp only [Nat.shiftRight_eq_div_pow]
    norm_num
    omega
  have hf : ((W e).extractLsb' 0 23).toNat = 0 := by
    rw [BitVec.extractLsb'_toNat, ht]
    simp only [Nat.shiftRight_eq_div_pow]
    norm_num
    try omega
  unfold Ideal.ieee
  simp only [hs, hx, hf]
  by_cases h5 : e = 255
  · simp [h5]
  · rw [if_neg (by omega), if_neg h5]
    unfold pw
    by_cases h0 : e = 0
    · simp [h0]
    · rw [if_neg h0, if_neg h0]
      congr 1
      push_cast
      norm_num
      rw [zpow_sub₀ (by norm_num : (2 : ℝ) ≠ 0) ((e : ℤ) - 127) 23]
      norm_num
      ring

theorem ofBits_W {e : ℕ} (h : e ≤ 254) : Ideal.ofBits .f32 (W e) = ((pw e : ℝ) : EReal) := by
  show Ideal.ieee 8 23 (W e) = _
  rw [ieee_W (by omega), if_neg (by omega)]

theorem lt_ofBits_W {a : ℝ} (h : a < (2 : ℝ) ^ (128 : ℤ)) {e : ℕ} (h1 : 1 ≤ e) (h2 : e ≤ 255) :
    ((a : ℝ) : EReal) < Ideal.ofBits .f32 (W e) ↔ count a < e := by
  show _ < Ideal.ieee 8 23 (W e) ↔ _
  rw [ieee_W h2]
  split_ifs with h5
  · exact ⟨fun _ => by have := count_le a; omega, fun _ => EReal.coe_lt_top a⟩
  · rw [EReal.coe_lt_coe_iff]
    have := le_count_iff a h1 (by omega : e ≤ 254)
    have hp : pw e = (2 : ℝ) ^ ((e : ℤ) - 127) := by unfold pw; rw [if_neg (by omega)]
    rw [hp, ← not_le, ← this, not_le]

/-- One step of the search. -/
def vstep {s : Shape} (a : FVec Ideal s .f32) (k : BitVec 32) (w : IVec s 32) : IVec s 32 :=
  select (cmpf .olt a (bitcastToFloat .f32 (addi w (broadcast s k)))) w (addi w (broadcast s k))

theorem vstep_apply {s : Shape} (a : FVec Ideal s .f32) (k : BitVec 32) (w : IVec s 32) (j : s.Idx) :
    vstep a k w j = if a j < Ideal.ofBits .f32 (w j + k) then w j else w j + k := by
  show (if Ideal.cmp .olt (a j) (Ideal.ofBits .f32 (w j + k)) = 1#1 then w j else w j + k) = _
  unfold Ideal.cmp
  by_cases h : a j < Ideal.ofBits .f32 (w j + k) <;> simp [h]

/-- What the search keeps: the answer `n` lies from `e` on and below `e + 2m`. -/
def Inv (n m : ℕ) (w : BitVec 32) : Prop := ∃ e, w = W e ∧ e ≤ n ∧ n < e + 2 * m ∧ e + 2 * m ≤ 256

theorem vstep_inv {s : Shape} {a : FVec Ideal s .f32} {w : IVec s 32} {j : s.Idx} {r : ℝ} (ha : a j = (r : EReal))
    (hr : r < (2 : ℝ) ^ (128 : ℤ)) {m : ℕ} (hm : 1 ≤ m) {k : BitVec 32} (hk : k = W m) (h : Inv (count r) m (w j)) :
    ∃ e, vstep a k w j = W e ∧ e ≤ count r ∧ count r < e + m ∧ e + m ≤ 256 := by
  obtain ⟨e, hw, h1, h2, h3⟩ := h
  rw [vstep_apply, hw, hk, W_add, ha]
  have hl := lt_ofBits_W hr (e := e + m) (by omega) (by omega)
  by_cases hc : count r < e + m
  · rw [if_pos (hl.mpr hc)]
    exact ⟨e, rfl, h1, hc, by omega⟩
  · rw [if_neg (fun h => hc (hl.mp h))]
    exact ⟨e + m, rfl, by omega, by omega, by omega⟩

theorem vstep_inv' {s : Shape} {a : FVec Ideal s .f32} {w : IVec s 32} {j : s.Idx} {r : ℝ} (ha : a j = (r : EReal))
    (hr : r < (2 : ℝ) ^ (128 : ℤ)) {m : ℕ} (hm : 1 ≤ m) {k : BitVec 32} (hk : k = W (2 * m)) (h : Inv (count r) (2 * m) (w j)) :
    Inv (count r) m (vstep a k w j) := by
  obtain ⟨e, h1, h2, h3, h4⟩ := vstep_inv ha hr (by omega) hk h
  exact ⟨e, h1, h2, h3, h4⟩

/-- The seven steps down to the bit 2^24. -/
def search7 {s : Shape} (a : FVec Ideal s .f32) : IVec s 32 :=
  vstep a 16777216#32 (vstep a 33554432#32 (vstep a 67108864#32 (vstep a 134217728#32 (vstep a 268435456#32
    (vstep a 536870912#32 (vstep a 1073741824#32 (broadcast s 0#32)))))))

theorem search_apply {s : Shape} {a : FVec Ideal s .f32} {j : s.Idx} {r : ℝ} (ha : a j = (r : EReal)) (hr : r < (2 : ℝ) ^ (128 : ℤ)) :
    vstep a 8388608#32 (search7 a) j = W (count r) := by
  have h0 : Inv (count r) (2 * 64) ((broadcast s 0#32 : IVec s 32) j) := ⟨0, rfl, by omega, by have := count_le r; omega, by omega⟩
  have h1 := vstep_inv' ha hr (m := 64) (by omega) (k := 1073741824#32) (by decide) h0
  have h2 := vstep_inv' ha hr (m := 32) (by omega) (k := 536870912#32) (by decide) h1
  have h3 := vstep_inv' ha hr (m := 16) (by omega) (k := 268435456#32) (by decide) h2
  have h4 := vstep_inv' ha hr (m := 8) (by omega) (k := 134217728#32) (by decide) h3
  have h5 := vstep_inv' ha hr (m := 4) (by omega) (k := 67108864#32) (by decide) h4
  have h6 := vstep_inv' ha hr (m := 2) (by omega) (k := 33554432#32) (by decide) h5
  have h7 := vstep_inv' ha hr (m := 1) (by omega) (k := 16777216#32) (by decide) h6
  obtain ⟨e, h8, h9, h10, _⟩ := vstep_inv ha hr (m := 1) (by omega) (k := 8388608#32) (by decide) h7
  rw [show count r = e by omega]
  exact h8

/-! ## The integer steps on exponent words -/

theorem shr_W {e : ℕ} (h : e ≤ 254) : IntOp.shrsi .vector (W e) 23#32 = BitVec.ofNat 32 e := by
  have : ∀ e : Fin 255, IntOp.shrsi .vector (W e.val) 23#32 = BitVec.ofNat 32 e.val := by decide +kernel
  exact this ⟨e, by omega⟩

theorem shl_ofNat {e : ℕ} (h : e ≤ 254) : IntOp.shli .vector (BitVec.ofNat 32 e) 23#32 = W e := by
  have : ∀ e : Fin 255, IntOp.shli .vector (BitVec.ofNat 32 e.val) 23#32 = W e.val := by decide +kernel
  exact this ⟨e, by omega⟩

/-- The word of a block's exponent. -/
def expoW (E : ℕ) : BitVec 32 := BitVec.ofInt 32 (expo E)

theorem expoW_eq {E : ℕ} (h : E ≤ 254) :
    (if BitVec.ofNat 32 E = 0#32 then 0#32 else BitVec.ofNat 32 E - 129#32) = expoW E := by
  have : ∀ e : Fin 255, (if BitVec.ofNat 32 e.val = 0#32 then 0#32 else BitVec.ofNat 32 e.val - 129#32) = expoW e.val := by decide +kernel
  exact this ⟨E, by omega⟩

theorem shl_expoW {E : ℕ} (h : E ≤ 254) (h0 : E = 0 ∨ 3 ≤ E) :
    IntOp.shli .vector (127#32 + expoW E) 23#32 = W (127 + expo E).toNat := by
  have : ∀ e : Fin 255, (e.val = 0 ∨ 3 ≤ e.val) → IntOp.shli .vector (127#32 + expoW e.val) 23#32 = W (127 + expo e.val).toNat := by
    decide +kernel
  exact this ⟨E, by omega⟩ h0

theorem shl_neg_expoW {E : ℕ} (h : E ≤ 254) (h0 : E = 0 ∨ 3 ≤ E) :
    IntOp.shli .vector (127#32 - expoW E) 23#32 = W (127 - expo E).toNat := by
  have : ∀ e : Fin 255, (e.val = 0 ∨ 3 ≤ e.val) → IntOp.shli .vector (127#32 - expoW e.val) 23#32 = W (127 - expo e.val).toNat := by
    decide +kernel
  exact this ⟨E, by omega⟩ h0

theorem pw_expo {E : ℕ} (h : E ≤ 254) (h0 : E = 0 ∨ 3 ≤ E) :
    (127 + expo E).toNat ≤ 254 ∧ pw (127 + expo E).toNat = (2 : ℝ) ^ expo E := by
  unfold expo
  rcases h0 with rfl | h3
  · norm_num [pw]
  · rw [if_neg (by omega)]
    refine ⟨by omega, ?_⟩
    unfold pw
    rw [if_neg (by omega)]
    congr 1
    omega

theorem pw_neg_expo {E : ℕ} (h : E ≤ 254) (h0 : E = 0 ∨ 3 ≤ E) :
    (127 - expo E).toNat ≤ 254 ∧ pw (127 - expo E).toNat = (2 : ℝ) ^ (-expo E) := by
  unfold expo
  rcases h0 with rfl | h3
  · norm_num [pw]
  · rw [if_neg (by omega)]
    refine ⟨by omega, ?_⟩
    unfold pw
    rw [if_neg (by omega)]
    congr 1
    omega

end Cert.Mx

end
-- ==== Proof.Group.lean ====
/-
  The values the kernel computes from one slab of 96 rows by 256 lanes (three blocks of 32 rows), read at an index: exponent words, the
  block exponents, the scaled weights and their own powers of two.
-/
module

public import proofs.«01_k».proof.Proof.Words

@[expose] public section

noncomputable section

namespace Cert.Mx

open Idealize.ShloMosaic Cert.KernelIdeal Cert.KernelIdeal.Gen

/-- The slab's weights over the reals: block, lane, place in the block. -/
abbrev Slab := Fin 3 → Fin 256 → Fin 32 → ℝ

/-- The block of a slab's row. -/
abbrev rb (j : S96x256.Idx) : Fin 3 := ⟨(j 0).val / 32, by have := (j 0).isLt; change (j 0).val < 96 at this; omega⟩

/-- The place of a slab's row in its block. -/
abbrev ri (j : S96x256.Idx) : Fin 32 := ⟨(j 0).val % 32, by omega⟩

abbrev ln (j : S96x256.Idx) : Fin 256 := j 1

/-- On the lanes `L` the slab holds these weights, and every block is zero or reaches 2^-124. -/
structure IsSlab (L : Fin 256 → Prop) (w : Vec Ideal S96x256 .bf16) (U : Slab) : Prop where
  at' : ∀ j, L (ln j) → w j = ((U (rb j) (ln j) (ri j) : ℝ) : EReal)
  blk : ∀ b l, L l → Blk (U b l)

variable {L : Fin 256 → Prop} {w : Vec Ideal S96x256 .bf16} {U : Slab}

theorem coe_max (a b : ℝ) : max (a : EReal) (b : EReal) = ((max a b : ℝ) : EReal) := (EReal.coe_strictMono.monotone.map_max).symm

theorem coe_min (a b : ℝ) : min (a : EReal) (b : EReal) = ((min a b : ℝ) : EReal) := (EReal.coe_strictMono.monotone.map_min).symm

theorem abs_coe (r : ℝ) : max (r : EReal) (-(r : EReal)) = ((|r| : ℝ) : EReal) := by
  rw [← EReal.coe_neg, coe_max]; rfl

theorem word_at (h : IsSlab L w U) (j : S96x256.Idx) (hl : L (ln j)) : k0_pay28 w j = W (count |U (rb j) (ln j) (ri j)|) := by
  have e : k0_pay28 w = vstep (absf (extf .f32 (k0_pay27 w) bitsLt_bf16_f32)) 8388608#32
      (search7 (absf (extf .f32 (k0_pay27 w) bitsLt_bf16_f32))) := rfl
  rw [e, search_apply (r := |U (rb j) (ln j) (ri j)|) ?_ ((h.blk _ _ hl).lt _)]
  rw [← abs_coe, ← h.at' j hl]
  pointwise [k0_pay27]
  rfl

theorem own_at (h : IsSlab L w U) (j : S96x256.Idx) (hl : L (ln j)) : k0_pay29 (F := Ideal) (k0_pay28 w) j = ((pw (count |U (rb j) (ln j) (ri j)|) : ℝ) : EReal) := by
  show Ideal.ofBits .f32 (IntOp.shli .vector (IntOp.shrsi .vector (k0_pay28 w j) 23#32) 23#32) = _
  rw [word_at h j hl, shr_W (count_le _), shl_ofNat (count_le _), ofBits_W (count_le _)]

theorem fold_max_pw (n : Fin 32 → ℕ) :
    Finset.fold max (Ideal.ofBits .f32 4286578688#32) (fun x => ((pw (n x) : ℝ) : EReal)) Finset.univ
      = ((pw (Finset.univ.sup n) : ℝ) : EReal) := by
  have hb : Ideal.ofBits .f32 4286578688#32 = (⊥ : EReal) := by simp [Ideal.ofBits, Ideal.ieee]
  rw [hb]
  show Finset.univ.sup (fun x => ((pw (n x) : ℝ) : EReal)) = _
  apply le_antisymm
  · exact Finset.sup_le fun x _ => EReal.coe_le_coe_iff.mpr (pw_mono (Finset.le_sup (f := n) (Finset.mem_univ x)))
  · obtain ⟨i, _, hi⟩ := Finset.exists_mem_eq_sup Finset.univ Finset.univ_nonempty n
    rw [hi]
    exact Finset.le_sup (f := fun x => ((pw (n x) : ℝ) : EReal)) (Finset.mem_univ i)

theorem rb_mk (b : Fin 3) (x : Fin 32) (l : Fin 256) (hb : b.val * 32 + x.val < 96) : rb (ix2 ⟨b.val * 32 + x.val, hb⟩ l) = b := by
  apply Fin.ext
  show (b.val * 32 + x.val) / 32 = b.val
  omega

theorem ri_mk (b : Fin 3) (x : Fin 32) (l : Fin 256) (hb : b.val * 32 + x.val < 96) : ri (ix2 ⟨b.val * 32 + x.val, hb⟩ l) = x := by
  apply Fin.ext
  show (b.val * 32 + x.val) % 32 = x.val
  omega

theorem top_at (h : IsSlab L w U) (j : S3x1x256.Idx) (hl : L (j 2)) :
    k0_pay30 (F := Ideal) (k0_pay28 w) j = ((pw (topE (U (j 0) (j 2))) : ℝ) : EReal) := by
  have key := fold_max_pw fun x => count |U (j 0) (j 2) x|
  generalize hwd : k0_pay28 w = wd
  have hwd' : ∀ y, L (ln y) → k0_pay29 (F := Ideal) wd y = ((pw (count |U (rb y) (ln y) (ri y)|) : ℝ) : EReal) := fun y hy => hwd ▸ own_at h y hy
  pointwise [k0_pay30]
  simp only [hwd' (ix2 _ (j 2)) hl]
  have e : ∀ x : Fin 32, ∀ hx : (j 0).val * 32 + x.val < 96,
      |U (rb (ix2 ⟨(j 0).val * 32 + x.val, hx⟩ (j 2))) (ln (ix2 ⟨(j 0).val * 32 + x.val, hx⟩ (j 2)))
        (ri (ix2 ⟨(j 0).val * 32 + x.val, hx⟩ (j 2)))| = |U (j 0) (j 2) x| := fun x hx => by
    rw [rb_mk (j 0) x (j 2) hx, ri_mk (j 0) x (j 2) hx]; rfl
  simp only [e]
  rw [key]
  exact (abs_coe _).trans (by rw [abs_of_nonneg (pw_nonneg _)]; rfl)

/-- The block exponents as words. -/
abbrev gE0 (w : Vec Ideal S96x256 .bf16) : IVec S3x1x256 32 :=
  k0_pay32 (k0_pay30 (F := Ideal) (k0_pay28 w)) (k0_pay31 (F := Ideal) (k0_pay28 w)) 8388608#32

theorem pw_lt {E : ℕ} (h : E ≤ 254) : pw E < (2 : ℝ) ^ (128 : ℤ) := by
  unfold pw
  split_ifs
  · positivity
  · exact zpow_lt_zpow_right₀ (by norm_num) (by omega)

theorem pay31_eq (v : IVec S96x256 32) : k0_pay31 (F := Ideal) v = search7 (k0_pay30 (F := Ideal) v) := by
  unfold k0_pay31
  generalize k0_pay30 (F := Ideal) v = t
  rfl

theorem pay32_apply (t : FVec Ideal S3x1x256 .f32) (v : IVec S3x1x256 32) (c : BitVec 32) (j : S3x1x256.Idx) :
    k0_pay32 t v c j = if IntOp.shrsi .vector (vstep t c v j) 23#32 = 0#32 then 0#32 else IntOp.shrsi .vector (vstep t c v j) 23#32 - 129#32 := by
  have e : k0_pay32 t v c j = if IntOp.cmpi .eq (IntOp.shrsi .vector (vstep t c v j) 23#32) 0#32 = 1 then 0#32
      else IntOp.shrsi .vector (vstep t c v j) 23#32 - 129#32 := rfl
  rw [e]
  generalize IntOp.shrsi .vector (vstep t c v j) 23#32 = x
  have hb : IntOp.cmpi .eq x 0#32 = BitVec.ofBool (x == 0#32) := rfl
  rw [hb]
  by_cases hx : x = 0#32
  · simp [hx]
  · have : (x == 0#32) = false := beq_eq_false_iff_ne.mpr hx
    rw [this, if_neg hx]
    rfl

theorem pay33_apply (t : FVec Ideal S3x1x256 .f32) (v : IVec S3x1x256 32) (c : BitVec 32) (j : S3x1x256.Idx) :
    k0_pay33 t v c j = Ideal.ofBits .f32 (IntOp.shli .vector (127#32 + k0_pay32 t v c j) 23#32) := rfl

theorem pay34_apply (t : FVec Ideal S3x1x256 .f32) (v : IVec S3x1x256 32) (c : BitVec 32) (j : S96x256.Idx) :
    k0_pay34 t v c j = Ideal.ofBits .f32 (IntOp.shli .vector (127#32 - k0_pay32 t v c (ix3 (rb j) 0 (ln j))) 23#32) := by
  unfold k0_pay34
  generalize k0_pay32 t v c = ee
  pointwise
  rfl

theorem pay35_apply (x : FVec Ideal S96x256 .bf16) (t : FVec Ideal S3x1x256 .f32) (v : IVec S3x1x256 32) (c : BitVec 32) (j : S96x256.Idx) :
    k0_pay35 x t v c j = x j * k0_pay34 t v c j := rfl

theorem pay36_apply (x : FVec Ideal S96x256 .bf16) (t : FVec Ideal S3x1x256 .f32) (v : IVec S3x1x256 32) (c : BitVec 32) (j : S96x256.Idx) :
    k0_pay36 x t v c j = x j * (k0_pay34 t v c j * Ideal.ofBits .bf16 0x42C0#16) := rfl

theorem e0_at (h : IsSlab L w U) (j : S3x1x256.Idx) (hl : L (j 2)) : gE0 w j = expoW (topE (U (j 0) (j 2))) := by
  have hE := topE_le (U (j 0) (j 2))
  have hs := search_apply (top_at h j hl) (pw_lt hE)
  rw [count_pw hE] at hs
  have h31 : k0_pay31 (F := Ideal) (k0_pay28 w) = search7 (k0_pay30 (F := Ideal) (k0_pay28 w)) := pay31_eq _
  unfold gE0
  rw [h31, pay32_apply, hs, shr_W hE, expoW_eq hE]

/-- The scale of a block. -/
abbrev gS (w : Vec Ideal S96x256 .bf16) : FVec Ideal S3x1x256 .f32 :=
  k0_pay33 (k0_pay30 (F := Ideal) (k0_pay28 w)) (k0_pay31 (F := Ideal) (k0_pay28 w)) 8388608#32

theorem s_at (h : IsSlab L w U) (j : S3x1x256.Idx) (hl : L (j 2)) : gS w j = (((2 : ℝ) ^ expo (topE (U (j 0) (j 2))) : ℝ) : EReal) := by
  unfold gS
  rw [pay33_apply]
  have hp := pw_expo (topE_le (U (j 0) (j 2))) (h.blk (j 0) (j 2) hl).topE_ge
  rw [show k0_pay32 (k0_pay30 (F := Ideal) (k0_pay28 w)) (k0_pay31 (F := Ideal) (k0_pay28 w)) 8388608#32 j = _ from e0_at h j hl, shl_expoW (topE_le _) (h.blk (j 0) (j 2) hl).topE_ge, ofBits_W hp.1, hp.2]

theorem inv_at (h : IsSlab L w U) (j : S96x256.Idx) (hl : L (ln j)) :
    k0_pay34 (k0_pay30 (F := Ideal) (k0_pay28 w)) (k0_pay31 (F := Ideal) (k0_pay28 w)) 8388608#32 j
      = (((2 : ℝ) ^ (-expo (topE (U (rb j) (ln j)))) : ℝ) : EReal) := by
  have hp := pw_neg_expo (topE_le (U (rb j) (ln j))) (h.blk (rb j) (ln j) hl).topE_ge
  have he := e0_at h (ix3 (rb j) 0 (ln j)) hl
  rw [pay34_apply, show k0_pay32 (k0_pay30 (F := Ideal) (k0_pay28 w)) (k0_pay31 (F := Ideal) (k0_pay28 w)) 8388608#32 (ix3 (rb j) 0 (ln j))
    = expoW (topE (U (rb j) (ln j))) from he, shl_neg_expoW (topE_le _) (h.blk (rb j) (ln j) hl).topE_ge, ofBits_W hp.1, hp.2]

/-- The scaled weights. -/
abbrev gV (w : Vec Ideal S96x256 .bf16) : FVec Ideal S96x256 .bf16 :=
  k0_pay35 (k0_pay27 w) (k0_pay30 (F := Ideal) (k0_pay28 w)) (k0_pay31 (F := Ideal) (k0_pay28 w)) 8388608#32

theorem v_at (h : IsSlab L w U) (j : S96x256.Idx) (hl : L (ln j)) : gV w j = ((scl (U (rb j) (ln j)) (ri j) : ℝ) : EReal) := by
  have e : k0_pay27 w j = w j := by pointwise [k0_pay27]
  unfold gV
  rw [pay35_apply, e, h.at' j hl, inv_at h j hl, ← EReal.coe_mul]
  rfl

/-- The scaled powers of two, times 96. -/
abbrev gEv (w : Vec Ideal S96x256 .bf16) : FVec Ideal S96x256 .bf16 :=
  k0_pay36 (k0_pay29 (F := Ideal) (k0_pay28 w)) (k0_pay30 (F := Ideal) (k0_pay28 w)) (k0_pay31 (F := Ideal) (k0_pay28 w)) 8388608#32

/-- The number a normal bit pattern stands for. -/
theorem ieee_norm {e m w : ℕ} (b : BitVec w) (neg : Bool) (ex fr : ℕ) (h1 : (b.extractLsb' (e + m) 1 == 1#1) = neg)
    (h2 : (b.extractLsb' m e).toNat = ex) (h3 : (b.extractLsb' 0 m).toNat = fr) (hx : ex ≠ 2 ^ e - 1) (h0 : ex ≠ 0) :
    Ideal.ieee e m b = ((((if neg then -1 else 1) * (2 ^ m + fr : ℕ) * (2 : ℝ) ^ ((ex : ℤ) - (2 ^ (e - 1) - 1) - m) : ℝ)) : EReal) := by
  unfold Ideal.ieee
  simp only [h1, h2, h3]
  rw [if_neg hx, if_neg h0]

theorem bf16_norm {b : BitVec 16} {r : ℝ} (neg : Bool) (ex fr : ℕ) (h1 : (b.extractLsb' (8 + 7) 1 == 1#1) = neg)
    (h2 : (b.extractLsb' 7 8).toNat = ex) (h3 : (b.extractLsb' 0 7).toNat = fr) (hx : ex ≠ 2 ^ 8 - 1) (h0 : ex ≠ 0)
    (hr : (if neg then -1 else 1) * ((2 ^ 7 + fr : ℕ) : ℝ) * (2 : ℝ) ^ ((ex : ℤ) - (2 ^ (8 - 1) - 1) - (7 : ℕ)) = r) :
    Ideal.ofBits .bf16 b = (r : EReal) := by
  rw [← hr]
  exact ieee_norm b neg ex fr h1 h2 h3 hx h0

theorem f32_norm {b : BitVec 32} {r : ℝ} (neg : Bool) (ex fr : ℕ) (h1 : (b.extractLsb' (8 + 23) 1 == 1#1) = neg)
    (h2 : (b.extractLsb' 23 8).toNat = ex) (h3 : (b.extractLsb' 0 23).toNat = fr) (hx : ex ≠ 2 ^ 8 - 1) (h0 : ex ≠ 0)
    (hr : (if neg then -1 else 1) * ((2 ^ 23 + fr : ℕ) : ℝ) * (2 : ℝ) ^ ((ex : ℤ) - (2 ^ (8 - 1) - 1) - (23 : ℕ)) = r) :
    Ideal.ofBits .f32 b = (r : EReal) := by
  rw [← hr]
  exact ieee_norm b neg ex fr h1 h2 h3 hx h0

theorem ofBits_96 : Ideal.ofBits .bf16 0x42C0#16 = ((96 : ℝ) : EReal) :=
  bf16_norm false 133 64 (by decide) (by decide) (by decide) (by decide) (by decide) (by norm_num)

theorem ofBits_48 : Ideal.ofBits .bf16 0x4240#16 = ((48 : ℝ) : EReal) :=
  bf16_norm false 132 64 (by decide) (by decide) (by decide) (by decide) (by decide) (by norm_num)

theorem ofBits_192 : Ideal.ofBits .bf16 0x4340#16 = ((192 : ℝ) : EReal) :=
  bf16_norm false 134 64 (by decide) (by decide) (by decide) (by decide) (by decide) (by norm_num)

theorem ofBits_n3 : Ideal.ofBits .bf16 0xC040#16 = (((-3) : ℝ) : EReal) :=
  bf16_norm true 128 64 (by decide) (by decide) (by decide) (by decide) (by decide) (by norm_num)

theorem ofBits_3 : Ideal.ofBits .bf16 0x4040#16 = ((3 : ℝ) : EReal) :=
  bf16_norm false 128 64 (by decide) (by decide) (by decide) (by decide) (by decide) (by norm_num)

theorem ofBits_n6 : Ideal.ofBits .bf16 0xC0C0#16 = (((-6) : ℝ) : EReal) :=
  bf16_norm true 129 64 (by decide) (by decide) (by decide) (by decide) (by decide) (by norm_num)

theorem ofBits_6 : Ideal.ofBits .bf16 0x40C0#16 = ((6 : ℝ) : EReal) :=
  bf16_norm false 129 64 (by decide) (by decide) (by decide) (by decide) (by decide) (by norm_num)

theorem ofBits_f192 : Ideal.ofBits .f32 0x43400000#32 = ((192 : ℝ) : EReal) :=
  f32_norm false 134 4194304 (by decide) (by decide) (by decide) (by decide) (by decide) (by norm_num)

theorem ofBits_f1 : Ideal.ofBits .f32 0x3F800000#32 = ((1 : ℝ) : EReal) :=
  f32_norm false 127 0 (by decide) (by decide) (by decide) (by decide) (by decide) (by norm_num)

theorem ofBits_f2 : Ideal.ofBits .f32 0x40000000#32 = ((2 : ℝ) : EReal) :=
  f32_norm false 128 0 (by decide) (by decide) (by decide) (by decide) (by decide) (by norm_num)

theorem ofBits_f4 : Ideal.ofBits .f32 0x40800000#32 = ((4 : ℝ) : EReal) :=
  f32_norm false 129 0 (by decide) (by decide) (by decide) (by decide) (by decide) (by norm_num)

theorem ofBits_f6 : Ideal.ofBits .f32 0x40C00000#32 = ((6 : ℝ) : EReal) :=
  f32_norm false 129 4194304 (by decide) (by decide) (by decide) (by decide) (by decide) (by norm_num)

theorem ofBits_f126 : Ideal.ofBits .f32 0x42FC0000#32 = ((126 : ℝ) : EReal) :=
  f32_norm false 133 8126464 (by decide) (by decide) (by decide) (by decide) (by decide) (by norm_num)

theorem ofBits_half : Ideal.ofBits .f32 0x3F000000#32 = ((1 / 2 : ℝ) : EReal) :=
  f32_norm false 126 0 (by decide) (by decide) (by decide) (by decide) (by decide) (by norm_num)

theorem ofBits_T : Ideal.ofBits .f32 0x3B800000#32 = ((1 / 256 : ℝ) : EReal) :=
  f32_norm false 119 0 (by decide) (by decide) (by decide) (by decide) (by decide) (by norm_num)

theorem ev_at (h : IsSlab L w U) (j : S96x256.Idx) (hl : L (ln j)) : gEv w j = ((own (U (rb j) (ln j)) (ri j) * 96 : ℝ) : EReal) := by
  unfold gEv
  rw [pay36_apply, own_at h j hl, inv_at h j hl, ofBits_96, ← EReal.coe_mul, ← EReal.coe_mul]
  unfold own
  congr 1
  ring

end Cert.Mx

end
-- ==== Proof.Errs.lean ====
/-
  The three errors of one slab, read at an index.
-/
module

public import proofs.«01_k».proof.Proof.Group

@[expose] public section

noncomputable section

namespace Cert.Mx

open Idealize.ShloMosaic Cert.KernelIdeal Cert.KernelIdeal.Gen

abbrev slice0 (d : FVec Ideal S96x256 .bf16) : FVec Ideal S32x256 .bf16 := extractStridedSlice S32x256 ![0, 0] d slices_S96x256_o0_0_S32x256

/-- The slab's product with the stored Gram terms. -/
def mmOf (d : FVec Ideal S96x256 .bf16) (h : Vec Ideal S1x128x256 .bf16) : FVec Ideal S128x256 .f32 :=
  have v220 : FVec Ideal S32x256 .bf16 := slice0 d
  have v221 : FVec Ideal S32x256 .bf16 := extractStridedSlice S32x256 ![32, 0] d slices_S96x256_o32_0_S32x256
  have v222 : FVec Ideal S32x256 .bf16 := extractStridedSlice S32x256 ![64, 0] d slices_S96x256_o64_0_S32x256
  have v223 : FVec Ideal S256x256 .bf16 := concatenate S256x256 0 [⟨S32x256, v220⟩, ⟨S32x256, v220⟩, ⟨S32x256, v220⟩, ⟨S32x256, v221⟩, ⟨S32x256, v221⟩, ⟨S32x256, v221⟩, ⟨S32x256, v222⟩, ⟨S32x256, v222⟩] concatenates_S32x256_S32x256_S32x256_S32x256_S32x256_S32x256_S32x256_S32x256_S256x256_d0
  have v225 : FVec Ideal S128x256 .bf16 := shapeCast S128x256 h shapeCasts_S1x128x256_S128x256
  matmul dot_S128x256_S256x256_S128x256_1_0_0_1_n_n none v225 v223 (constant S128x256 .f32 0x00000000#32)

/-- The error from the product, the remainders and the scale. -/
def tailOf (s : FVec Ideal S3x1x256 .f32) (d : FVec Ideal S96x256 .bf16) (v226 : FVec Ideal S128x256 .f32) : FVec Ideal S1x3x256 .f32 :=
  have v227 : FVec Ideal S96x256 .f32 := extf .f32 d bitsLt_bf16_f32
  have v228 : FVec Ideal S64x256 .f32 := extractStridedSlice S64x256 ![0, 0] v226 slices_S128x256_o0_0_S64x256
  have v229 : FVec Ideal S64x256 .f32 := extractStridedSlice S64x256 ![0, 0] v227 slices_S96x256_o0_0_S64x256
  have v230 : FVec Ideal S64x256 .f32 := mulf v228 v229
  have v231 : FVec Ideal S32x256 .f32 := extractStridedSlice S32x256 ![64, 0] v226 slices_S128x256_o64_0_S32x256
  have v232 : FVec Ideal S32x256 .f32 := extractStridedSlice S32x256 ![96, 0] v226 slices_S128x256_o96_0_S32x256
  have v233 : FVec Ideal S32x256 .f32 := addf v231 v232
  have v234 : FVec Ideal S32x256 .f32 := extractStridedSlice S32x256 ![64, 0] v227 slices_S96x256_o64_0_S32x256
  have v235 : FVec Ideal S32x256 .f32 := mulf v233 v234
  have v236 : FVec Ideal S96x256 .f32 := concatenate S96x256 0 [⟨S64x256, v230⟩, ⟨S32x256, v235⟩] concatenates_S64x256_S32x256_S96x256_d0
  have v237 : FVec Ideal S3x32x256 .f32 := shapeCast S3x32x256 v236 shapeCasts_S96x256_S3x32x256
  have v238 : FVec Ideal S3x256 .f32 := multiReduction .add [1] S3x256 v237 0x00000000#32 reduces_S3x32x256_S3x256 (.inl rfl) rfl
  have v239 : FVec Ideal S3x256 .f32 := shapeCast S3x256 s shapeCasts_S3x1x256_S3x256
  have v240 : FVec Ideal S3x256 .f32 := mulf v238 v239
  have v241 : FVec Ideal S3x256 .f32 := shapeCast S3x256 s shapeCasts_S3x1x256_S3x256
  have v242 : FVec Ideal S3x256 .f32 := mulf v240 v241
  have v246 : FVec Ideal S1x3x256 .f32 := shapeCast S1x3x256 v242 shapeCasts_S3x256_S1x3x256
  v246

theorem pay43_eq (s : FVec Ideal S3x1x256 .f32) (d : FVec Ideal S96x256 .bf16) (h : Vec Ideal S1x128x256 .bf16) :
    k0_pay43 s d (slice0 d) h = tailOf s d (mmOf d h) := rfl

theorem pay39_eq (s : FVec Ideal S3x1x256 .f32) (v q m : FVec Ideal S96x256 .bf16) (h : Vec Ideal S1x128x256 .bf16) :
    k0_pay39 s v q m h = tailOf s (subf v (minimumf m q)) (mmOf (subf v (minimumf m q)) h) := rfl

/-- The slab of Gram terms: on its own slot the block's matrix, elsewhere zero. -/
structure IsH (h : Vec Ideal S1x128x256 .bf16) (H : Fin 3 → Fin 32 → Fin 32 → ℝ) : Prop where
  at' : ∀ (r : Fin 128) (c : Fin 256), h (ix3 0 r c) = (((if hr : r.val < 96 then (if c.val / 32 = 3 * (r.val / 32) then
    H ⟨r.val / 32, by omega⟩ ⟨r.val % 32, by omega⟩ ⟨c.val % 32, by omega⟩ else 0) else 0) : ℝ) : EReal)

theorem coe_sum {ι : Type} (t : Finset ι) (f : ι → ℝ) : ∑ i ∈ t, ((f i : ℝ) : EReal) = ((∑ i ∈ t, f i : ℝ) : EReal) := by
  classical
  induction t using Finset.induction_on with
  | empty => simp
  | insert i t hi ih => rw [Finset.sum_insert hi, Finset.sum_insert hi, ih, EReal.coe_add]

/-- A slab over the reals, on the lanes `L`. -/
structure IsReal (L : Fin 256 → Prop) (d : FVec Ideal S96x256 .bf16) (D : Slab) : Prop where
  at' : ∀ j, L (ln j) → d j = ((D (rb j) (ln j) (ri j) : ℝ) : EReal)

theorem IsReal.mk' {L : Fin 256 → Prop} {d : FVec Ideal S96x256 .bf16} {D : Slab} (h : IsReal L d D) (n : Fin 96) (l : Fin 256) (hl : L l) (b : Fin 3) (i : Fin 32)
    (hn : n.val = b.val * 32 + i.val) : d (ix2 n l) = ((D b l i : ℝ) : EReal) := by
  have hi := i.isLt
  rw [h.at' (ix2 n l) hl, show rb (ix2 n l) = b from Fin.ext (by show n.val / 32 = b.val; omega),
    show ri (ix2 n l) = i from Fin.ext (by show n.val % 32 = i.val; omega)]
  rfl

variable {L : Fin 256 → Prop} {d : FVec Ideal S96x256 .bf16} {D : Slab} {h : Vec Ideal S1x128x256 .bf16} {H : Fin 3 → Fin 32 → Fin 32 → ℝ}

theorem mm_tail (hh : IsH h H) (j : S128x256.Idx) (hj : 96 ≤ (j 0).val) : mmOf d h j = 0 := by
  pointwise [mmOf]
  refine Finset.sum_eq_zero fun x _ => ?_
  rw [hh.at' (j 0) x, dif_neg (by omega)]
  exact zero_mul _

theorem mm_at (hd : IsReal L d D) (hh : IsH h H) (j : S128x256.Idx) (hl : L (j 1)) (b : Fin 3) (i : Fin 32) (hj : (j 0).val = b.val * 32 + i.val) :
    mmOf d h j = ((∑ k, H b i k * D b (j 1) k : ℝ) : EReal) := by
  rw [← coe_sum]
  have hb := b.isLt
  have hi := i.isLt
  pointwise [mmOf]
  symm
  refine Finset.sum_of_injOn (fun k : Fin 32 => (⟨96 * b.val + k.val, by omega⟩ : Fin 256)) ?_ ?_ ?_ ?_
  · intro x _ y _ hxy
    have := congrArg Fin.val hxy
    dsimp only at this
    exact Fin.ext (by omega)
  · intro x _; exact Finset.mem_coe.mpr (Finset.mem_univ _)
  · intro x _ hx
    rw [hh.at' (j 0) x, dif_pos (by omega), if_neg ?_]
    · exact zero_mul _
    · intro hc
      refine hx ⟨⟨x.val % 32, by omega⟩, Finset.mem_coe.mpr (Finset.mem_univ _), Fin.ext ?_⟩
      show 96 * b.val + x.val % 32 = x.val
      omega
  · intro k _
    have hk := k.isLt
    rw [hh.at' (j 0) ⟨96 * b.val + k.val, by omega⟩, dif_pos (by omega), if_pos (by dsimp only; omega), EReal.coe_mul]
    congr 1
    · congr 2
      · exact Fin.ext (by dsimp only; omega)
      · exact Fin.ext (by dsimp only; omega)
      · exact Fin.ext (by dsimp only; omega)
    · obtain h0 | h0 | h0 : b.val = 0 ∨ b.val = 1 ∨ b.val = 2 := by omega
      · rw [dif_pos (by dsimp only; omega)]
        exact (hd.mk' _ _ hl b k (by dsimp only; omega)).symm
      · rw [dif_neg (by dsimp only; omega), dif_neg (by dsimp only; omega), dif_neg (by dsimp only; omega), dif_pos (by dsimp only; omega)]
        exact (hd.mk' _ _ hl b k (by dsimp only; omega)).symm
      · rw [dif_neg (by dsimp only; omega), dif_neg (by dsimp only; omega), dif_neg (by dsimp only; omega), dif_neg (by dsimp only; omega),
          dif_neg (by dsimp only; omega), dif_neg (by dsimp only; omega), dif_pos (by dsimp only; omega)]
        exact (hd.mk' _ _ hl b k (by dsimp only; omega)).symm

theorem tail_at {s : FVec Ideal S3x1x256 .f32} {σ : Fin 3 → Fin 256 → ℝ} (hs : ∀ y, L (y 2) → s y = ((σ (y 0) (y 2) : ℝ) : EReal))
    (hd : IsReal L d D) (hh : IsH h H) (j : S1x3x256.Idx) (hl : L (j 2)) :
    tailOf s d (mmOf d h) j
      = (((∑ i, (∑ k, H (j 1) i k * D (j 1) (j 2) k) * D (j 1) (j 2) i) * σ (j 1) (j 2) * σ (j 1) (j 2) : ℝ) : EReal) := by
  have m1 := mm_at hd hh
  have m2 := mm_tail (d := d) hh
  generalize mmOf d h = m at m1 m2
  pointwise [tailOf]
  rw [hs _ hl, EReal.coe_mul, EReal.coe_mul, ← coe_sum]
  have hj := (j 1).isLt
  change (j 1).val < 3 at hj
  congr 2
  refine Finset.sum_congr rfl fun i _ => ?_
  have hi := i.isLt
  rw [EReal.coe_mul]
  split_ifs with hc h0
  · exact congrArg₂ (· * ·) (m1 _ hl (j 1) i rfl) (hd.mk' _ _ hl (j 1) i rfl)
  · refine congrArg₂ (· * ·) ((congrArg₂ (· + ·) (m1 _ hl (j 1) i ?_) (m2 _ ?_)).trans (add_zero _)) (hd.mk' _ _ hl (j 1) i ?_)
    · show 64 + ((j 1).val * 32 + i.val - 64) = (j 1).val * 32 + i.val
      omega
    · show 96 ≤ 96 + ((j 1).val * 32 + i.val - 64)
      omega
    · show 64 + ((j 1).val * 32 + i.val - 64) = (j 1).val * 32 + i.val
      omega

  · exact absurd rfl h0

/-! ## The three roundings -/

/-- Rounding to a multiple, on the extended reals. -/
def kqE (a m : EReal) : EReal :=
  Ideal.liftRound Ideal.roundHalfEven (Ideal.div (a * Ideal.ofBits .f32 0x43400000#32) m) * Ideal.div m (Ideal.ofBits .f32 0x43400000#32)

theorem kqE_eq (v e : ℝ) {σ : ℝ} (hσ : 0 < σ) : kqE (v : EReal) (((max (e * 96) (96 * σ) : ℝ)) : EReal) = ((kround v e σ : ℝ) : EReal) := by
  have hm : (max (e * 96) (96 * σ) : ℝ) ≠ 0 := ne_of_gt (lt_of_lt_of_le (by positivity) (le_max_right _ _))
  unfold kqE
  rw [ofBits_f192, ← EReal.coe_mul, Ideal.div_coe hm, Ideal.div_coe (by norm_num : (192 : ℝ) ≠ 0)]
  simp only [← EReal.coe_mul, mul_one_div]
  show (((Ideal.roundHalfEven _ : ℤ) : ℝ) : EReal) * _ = _
  rw [← EReal.coe_mul]
  rfl

theorem pay37_apply (x y : FVec Ideal S96x256 .bf16) (t : FVec Ideal S3x1x256 .f32) (v : IVec S3x1x256 32) (c : BitVec 32) (j : S96x256.Idx) :
    k0_pay37 x y t v c j = max (Ideal.ofBits .bf16 0xC040#16) (kqE (k0_pay35 x t v c j) (max (k0_pay36 y t v c j) (Ideal.ofBits .bf16 0x4240#16))) := rfl

theorem pay40_apply (a b : FVec Ideal S96x256 .bf16) (j : S96x256.Idx) :
    k0_pay40 a b j = min (Ideal.ofBits .bf16 0x40C0#16) (max (Ideal.ofBits .bf16 0xC0C0#16) (kqE (a j) (max (b j) (Ideal.ofBits .bf16 0x42C0#16)))) := rfl

/-- The rounding at the largest of the three candidates. -/
def q2Of (v155 v158 : FVec Ideal S96x256 .bf16) : FVec Ideal S96x256 .bf16 :=
  have v274 : FVec Ideal S96x256 .bf16 := broadcast S96x256 (Scalar.ofBits .bf16 0x4340#16)
  have v275 : FVec Ideal S96x256 .bf16 := maximumf v158 v274
  have v276 : FVec Ideal S96x256 .f32 := extf .f32 v275 bitsLt_bf16_f32
  have v277 : FVec Ideal S96x256 .f32 := extf .f32 v155 bitsLt_bf16_f32
  have v278 : FVec Ideal S96x256 .f32 := broadcast S96x256 (Scalar.ofBits .f32 0x43400000#32)
  have v279 : FVec Ideal S96x256 .f32 := mulf v277 v278
  have v280 : FVec Ideal S96x256 .f32 := divf v279 v276
  have v281 : FVec Ideal S96x256 .f32 := roundeven v280
  have v282 : FVec Ideal S96x256 .f32 := broadcast S96x256 (Scalar.ofBits .f32 0x43400000#32)
  have v283 : FVec Ideal S96x256 .f32 := divf v276 v282
  have v284 : FVec Ideal S96x256 .f32 := mulf v281 v283
  truncf .bf16 v284 bitsLt_bf16_f32

theorem q2Of_apply (a b : FVec Ideal S96x256 .bf16) (j : S96x256.Idx) :
    q2Of a b j = kqE (a j) (max (b j) (Ideal.ofBits .bf16 0x4340#16)) := rfl

theorem pay46_eq (s : FVec Ideal S3x1x256 .f32) (a b : FVec Ideal S96x256 .bf16) (h : Vec Ideal S1x128x256 .bf16) :
    k0_pay46 s a b h = tailOf s (subf a (q2Of a b)) (mmOf (subf a (q2Of a b)) h) := rfl

variable {w : Vec Ideal S96x256 .bf16} {U : Slab}

/-- The rounded weights of the slab at a candidate step. -/
def Q (U : Slab) (c : ℤ) : Slab := fun b l i => (2 : ℝ) ^ c * quant (scl (U b l) i / (2 : ℝ) ^ c)

theorem q0_at (h : IsSlab L w U) (j : S96x256.Idx) (hl : L (ln j)) :
    minimumf k0_pay38 (k0_pay37 (k0_pay27 w) (k0_pay29 (F := Ideal) (k0_pay28 w)) (k0_pay30 (F := Ideal) (k0_pay28 w))
      (k0_pay31 (F := Ideal) (k0_pay28 w)) 8388608#32) j = ((Q U (-1) (rb j) (ln j) (ri j) : ℝ) : EReal) := by
  have hv := v_at h j hl
  have he := ev_at h j hl
  unfold gV at hv
  unfold gEv at he
  have e : ∀ q : FVec Ideal S96x256 .bf16, minimumf k0_pay38 q j = min (Ideal.ofBits .bf16 0x4040#16) (q j) := fun _ => rfl
  rw [e, pay37_apply, hv, he, ofBits_48, ofBits_3, ofBits_n3, coe_max, show (48 : ℝ) = 96 * (2 : ℝ) ^ (-1 : ℤ) by norm_num,
    kqE_eq _ _ (by positivity), coe_max, coe_min]
  congr 1
  have := (h.blk (rb j) (ln j) hl).kround_clip (ri j) (-1) (by norm_num)
  rw [show (6 * (2 : ℝ) ^ (-1 : ℤ)) = 3 by norm_num] at this
  rw [min_comm, max_comm]
  exact this

theorem q1_at (h : IsSlab L w U) (j : S96x256.Idx) (hl : L (ln j)) : k0_pay40 (gV w) (gEv w) j = ((Q U 0 (rb j) (ln j) (ri j) : ℝ) : EReal) := by
  rw [pay40_apply, v_at h j hl, ev_at h j hl, ofBits_96, ofBits_6, ofBits_n6, coe_max, show max (own (U (rb j) (ln j)) (ri j) * 96) 96
    = max (own (U (rb j) (ln j)) (ri j) * 96) (96 * (2 : ℝ) ^ (0 : ℤ)) by norm_num, kqE_eq _ _ (by positivity), coe_max, coe_min]
  congr 1
  have := (h.blk (rb j) (ln j) hl).kround_clip (ri j) 0 (by norm_num)
  rw [show (6 * (2 : ℝ) ^ (0 : ℤ)) = 6 by norm_num] at this
  rw [min_comm, max_comm]
  exact this

theorem q2_at (h : IsSlab L w U) (j : S96x256.Idx) (hl : L (ln j)) : q2Of (gV w) (gEv w) j = ((Q U 1 (rb j) (ln j) (ri j) : ℝ) : EReal) := by
  rw [q2Of_apply, v_at h j hl, ev_at h j hl, ofBits_192, coe_max, show (192 : ℝ) = 96 * (2 : ℝ) ^ (1 : ℤ) by norm_num, kqE_eq _ _ (by positivity)]
  congr 1
  exact (h.blk (rb j) (ln j) hl).kround_free (ri j) 1 (by norm_num)

/-- The error of a slab from remainders of scaled weights at candidate `c`. -/
theorem err_at (hw : IsSlab L w U) {h : Vec Ideal S1x128x256 .bf16} {H : Fin 3 → Fin 32 → Fin 32 → ℝ} (hh : IsH h H) (c : ℤ)
    {q : FVec Ideal S96x256 .bf16} (hq : ∀ j, L (ln j) → q j = ((Q U c (rb j) (ln j) (ri j) : ℝ) : EReal)) (j : S1x3x256.Idx) (hl : L (j 2)) :
    tailOf (gS w) (subf (gV w) q) (mmOf (subf (gV w) q) h) j = ((errR (H (j 1)) (U (j 1) (j 2)) c : ℝ) : EReal) := by
  have hd : IsReal L (subf (gV w) q) fun b l i => scl (U b l) i - Q U c b l i := ⟨fun y hy => by
    rw [EReal.coe_sub, ← v_at hw y hy, ← hq y hy]
    rfl⟩
  rw [tail_at (σ := fun b l => (2 : ℝ) ^ expo (topE (U b l))) (fun y hy => s_at hw y hy) hd hh j hl]
  congr 1
  exact errR_of_scl (H (j 1)) (U (j 1) (j 2)) c _ fun i => rfl

/-! ## Codes and scales -/

/-- The four bits of a value `v`: its rounding's magnitude bits and its sign bit. -/
def nibW (v : ℝ) : BitVec 32 :=
  IntOp.ori (Ideal.fptosi 32 ((mag (grid (min |v| 6)) : ℝ) : EReal)) (if v < 0 ∧ grid (min |v| 6) ≠ 0 then 8#32 else 0#32)

theorem pay44_apply (q : FVec Ideal S96x256 .bf16) (j : S96x256.Idx) :
    k0_pay44 q j = IntOp.ori (Ideal.fptosi 32 (min (min (Ideal.ofBits .f32 0x40000000#32 * max (q j) (-(q j)))
        (max (q j) (-(q j)) + Ideal.ofBits .f32 0x40000000#32)) (Ideal.ofBits .f32 0x3F000000#32 * max (q j) (-(q j)) + Ideal.ofBits .f32 0x40800000#32)))
      (if Ideal.cmp .olt (q j) (Ideal.ofBits .f32 0x00000000#32) = 1#1 then 8#32 else 0#32) := rfl

theorem nib_at {q : FVec Ideal S96x256 .bf16} {j : S96x256.Idx} {v : ℝ} (hq : q j = ((quant v : ℝ) : EReal)) : k0_pay44 q j = nibW v := by
  rw [pay44_apply, hq, abs_coe, abs_quant, ofBits_f2, ofBits_half, ofBits_f4, Ideal.ofBits_zero_f32]
  simp only [← EReal.coe_mul, ← EReal.coe_add, coe_min, mag_eq]
  unfold nibW
  congr 1
  have hi := quant_neg_iff v
  unfold Ideal.cmp
  have h0 : ((quant v : ℝ) : EReal) < 0 ↔ quant v < 0 := by rw [← EReal.coe_zero, EReal.coe_lt_coe_iff]
  by_cases h : quant v < 0
  · rw [if_pos (by simp [h0, h]), if_pos (hi.mp h)]
  · rw [if_neg (by simp [h0, h]), if_neg (fun hc => h (hi.mpr hc))]

theorem code_at (n : IVec S96x256 32) (j : S48x256.Idx) :
    k0_pay45 n j = IntOp.ori (n (ix2 ⟨(j 0).val * 2, by have := (j 0).isLt; change (j 0).val < 48 at this; omega⟩ (j 1)))
      (IntOp.shli .vector (n (ix2 ⟨(j 0).val * 2 + 1, by have := (j 0).isLt; change (j 0).val < 48 at this; omega⟩ (j 1))) 4#32) := by
  pointwise [k0_pay45]

theorem scale_at (e : IVec S3x1x256 32) (j : S3x256.Idx) : k0_pay47 e j = IntOp.addi (e (ix3 (j 0) 0 (j 1))) 127#32 := by
  pointwise [k0_pay47]

end Cert.Mx

end
-- ==== Proof.Hfill.lean ====
/-
  The scratch the first counted loop fills: for every group of three blocks, the Gram terms of its rows against its eight slots.
-/
module

public import proofs.«01_k».proof.Proof.Errs
public import proofs.«01_k».proof.Proof.Gen.KernelIdeal.Loops
public import Idealize.ShloMosaic.Lib.VecWindow

@[expose] public section

noncomputable section

namespace Cert.Mx

open Idealize.ShloMosaic Idealize.ShloMosaic.TcCoe Cert.KernelIdeal Cert.KernelIdeal.Gen

/-- A buffer written piece by piece, read at a place where `P` holds that some piece covers: the common value of the pieces there. -/
theorem read_of_pieces {Val : EltTy → Type} {sig : RefSig} {κ : Kind} {sp : Space} {s : Shape} {e : EltTy} (v : View sig κ sp s e) (f : BufTy.Contents Val v.ty)
    (P : s.Idx → Prop) (G : s.Idx → Val e) :
    ∀ L : List (View.Piece Val s e), (∀ p ∈ L, ∀ x : p.1.shape.Idx, P (p.1.emb x) → p.2 x = G (p.1.emb x)) →
      ∀ y : s.Idx, P y → (∃ p ∈ L, y ∈ p.1.set) → v.read Val (v.writes Val f L) y = G y
  | [], _, _, _, h => by obtain ⟨_, hm, _⟩ := h; exact absurd hm List.not_mem_nil
  | p :: L, hG, y, hP, h => by
    by_cases hy : y ∈ p.1.set
    · obtain ⟨x, rfl⟩ : ∃ x, p.1.emb x = y := p.1.exists_idx_of_mem hy
      obtain ⟨r, w⟩ := p
      rw [View.read_writes_cons_emb]
      exact hG ⟨r, w⟩ List.mem_cons_self x hP
    · have hy' : y ∉ Finset.univ.map p.1.emb := by rwa [Rect.map_emb_univ]
      rw [View.writes_cons, View.read_slice_write_of_not_mem p.1 _ _ _ hy']
      refine read_of_pieces v f P G L (fun p' hp' => hG p' (List.mem_cons_of_mem _ hp')) y hP ?_
      obtain ⟨p', hm, hy''⟩ := h
      rcases List.mem_cons.mp hm with rfl | hm
      · exact absurd hy'' hy
      · exact ⟨p', hm, hy''⟩

/-! ## The masks -/

theorem row_at (j : S96x256.Idx) : k0_pay17 j = BitVec.ofNat 32 ((j 0).val / 32) := by
  pointwise [k0_pay17]
  generalize j 0 = r
  revert r
  decide +kernel

theorem col_at (j : S96x256.Idx) : k0_pay20 k0_pay18 k0_pay19 j = BitVec.ofNat 32 ((j 1).val / 32) := by
  pointwise [k0_pay20, k0_pay18, k0_pay19]
  generalize j 1 = r
  revert r
  decide +kernel

theorem blockOf_at (v59 : IVec S96x256 32) (v78 : IVec S96x256 1) (s : Fin 8) (j : S96x256.Idx) (h : k0_pay20 v59 v78 j = BitVec.ofNat 32 s.val) :
    k0_pay21 v59 v78 j = BitVec.ofNat 32 (if s.val < 6 then s.val / 3 else 2) := by
  generalize hv : k0_pay20 v59 v78 = v at h
  pointwise [k0_pay21, hv]
  rw [h]
  clear hv h
  revert s
  decide +kernel

theorem termOf_at (v59 : IVec S96x256 32) (v78 : IVec S96x256 1) (s : Fin 8) (j : S96x256.Idx) (h : k0_pay20 v59 v78 j = BitVec.ofNat 32 s.val) :
    k0_pay1 (k0_pay20 v59 v78) (k0_pay22 v59 v78) 3#32 (k0_pay23 v59 v78) (k0_pay24 v59 v78) (k0_pay25 v59 v78) k0_pay26 j
      = BitVec.ofNat 32 (if s.val < 6 then s.val % 3 else s.val - 6) := by
  generalize hv : k0_pay20 v59 v78 = v at h
  pointwise [k0_pay1, k0_pay22, k0_pay23, k0_pay24, k0_pay25, k0_pay26, hv]
  rw [h]
  clear hv h
  revert s
  decide +kernel

theorem own_iff (j : S96x256.Idx) : k0_pay2 k0_pay17 (k0_pay21 k0_pay18 k0_pay19) j
      = if (j 0).val / 32 = (if (j 1).val / 32 < 6 then (j 1).val / 32 / 3 else 2) then 1#1 else 0#1 := by
  have e : ∀ (a b : IVec S96x256 32), k0_pay2 a b j = IntOp.cmpi .eq (a j) (b j) := fun _ _ => rfl
  have h1 := (j 1).isLt
  change (j 1).val < 256 at h1
  have h0 := (j 0).isLt
  change (j 0).val < 96 at h0
  rw [e, row_at, blockOf_at _ _ ⟨(j 1).val / 32, by omega⟩ j (col_at j)]
  have : ∀ (a : Fin 3) (s : Fin 8), IntOp.cmpi .eq (BitVec.ofNat 32 a.val) (BitVec.ofNat 32 (if s.val < 6 then s.val / 3 else 2))
    = if a.val = (if s.val < 6 then s.val / 3 else 2) then 1#1 else 0#1 := by decide +kernel
  exact this ⟨(j 0).val / 32, by omega⟩ ⟨(j 1).val / 32, by omega⟩

theorem term_at (j : S96x256.Idx) :
    k0_pay1 (k0_pay20 k0_pay18 k0_pay19) (k0_pay22 k0_pay18 k0_pay19) 3#32 (k0_pay23 k0_pay18 k0_pay19) (k0_pay24 k0_pay18 k0_pay19) (k0_pay25 k0_pay18 k0_pay19) k0_pay26 j
      = BitVec.ofNat 32 (if (j 1).val / 32 < 6 then (j 1).val / 32 % 3 else (j 1).val / 32 - 6) := by
  have h1 := (j 1).isLt
  change (j 1).val < 256 at h1
  exact termOf_at _ _ ⟨(j 1).val / 32, by omega⟩ j (col_at j)

/-! ## One trip's two stores -/

/-- Row `n` of a group's samples: the two loaded halves side by side. -/
def IsRows (x0 x1 : Vec Ideal S1x96x128 .bf16) (A : Fin 96 → Fin 256 → ℝ) : Prop :=
  ∀ (n : Fin 96) (m : Fin 128), x0 (ix3 0 n m) = ((A n ⟨m.val, by omega⟩ : ℝ) : EReal) ∧ x1 (ix3 0 n m) = ((A n ⟨128 + m.val, by omega⟩ : ℝ) : EReal)

variable {x0 x1 : Vec Ideal S1x96x128 .bf16} {A : Fin 96 → Fin 256 → ℝ}

/-- The Gram terms of the group's blocks. -/
def gram (A : Fin 96 → Fin 256 → ℝ) (b : Fin 3) (i j : Fin 32) : ℝ :=
  (∑ m, A ⟨32 * b.val + i.val, by omega⟩ m * A ⟨32 * b.val + j.val, by omega⟩ m) * (1 / 256)

abbrev slotRow (c : Fin 256) : Fin 96 := ⟨32 * min (c.val / 96) 2 + c.val % 32, by omega⟩

theorem pay10_at (h : IsRows x0 x1 A) (j : S96x256.Idx) :
    k0_pay10 x0 x1 j = (((∑ m, A (j 0) m * A (slotRow (j 1)) m) * (1 / 256) : ℝ) : EReal) := by
  have h1 := (j 1).isLt
  change (j 1).val < 256 at h1
  have e : ∀ (n : Fin 96) (m : Fin 256), concatenate S96x256 1 [⟨S96x128, shapeCast S96x128 x0 shapeCasts_S1x96x128_S96x128⟩, ⟨S96x128, shapeCast S96x128 x1 shapeCasts_S1x96x128_S96x128⟩]
      concatenates_S96x128_S96x128_S96x256_d1 (ix2 n m) = ((A n m : ℝ) : EReal) := by
    intro n m
    pointwise
    by_cases hm : m.val < 128
    · rw [dif_pos hm]
      exact (h n ⟨m.val, hm⟩).1
    · rw [dif_neg hm]
      refine Eq.trans (?_ : _ = x1 (ix3 0 n ⟨m.val - 128, by omega⟩)) ((h n ⟨m.val - 128, by omega⟩).2.trans ?_)
      · rfl
      · congr 2; exact Fin.ext (by show 128 + (m.val - 128) = m.val; omega)
  unfold k0_pay10
  generalize concatenate S96x256 1 [⟨S96x128, shapeCast S96x128 x0 shapeCasts_S1x96x128_S96x128⟩, ⟨S96x128, shapeCast S96x128 x1 shapeCasts_S1x96x128_S96x128⟩]
      concatenates_S96x128_S96x128_S96x256_d1 = y at e
  pointwise
  rw [EReal.coe_mul, ← coe_sum]
  refine congrArg₂ (· * ·) (Finset.sum_congr rfl fun m _ => ?_) (by first | exact ofBits_T | rfl)
  rw [EReal.coe_mul]
  refine congrArg₂ (· * ·) (e _ _) ?_
  have e' : ∀ (n : Fin 96), n.val = (slotRow (j 1)).val → y (ix2 n m) = ((A (slotRow (j 1)) m : ℝ) : EReal) := by
    intro n hn
    rw [e, show n = slotRow (j 1) from Fin.ext hn]
  split_ifs <;> exact e' _ (by dsimp only; omega)

theorem sub_self_coe (r : ℝ) : (r : EReal) - (r : EReal) = 0 := by rw [← EReal.coe_sub, sub_self]; rfl

theorem pay12_at (h : IsRows x0 x1 A) (j : S96x256.Idx) : k0_pay12 x0 x1 j = 0 := by
  have e : k0_pay12 x0 x1 j = k0_pay10 x0 x1 j - k0_pay10 x0 x1 j := rfl
  rw [e, pay10_at h, sub_self_coe]

theorem pay14_at (h : IsRows x0 x1 A) (j : S96x256.Idx) : k0_pay14 x0 x1 j = 0 := by
  have e : k0_pay14 x0 x1 j = k0_pay12 x0 x1 j - k0_pay12 x0 x1 j := rfl
  rw [e, pay12_at h]
  exact sub_self_coe 0

theorem pay3_at (h : IsRows x0 x1 A) (v81 : IVec S96x256 32) (j : S1x32x256.Idx) : k0_pay3 (k0_pay15 v81 x0 x1) j = 0 := by
  have z := pay14_at h
  unfold k0_pay15
  generalize k0_pay14 x0 x1 = y at z
  pointwise [k0_pay3]
  rw [z]
  have : Ideal.ofBits .f32 0x00000000#32 = 0 := by simp [Ideal.ofBits, Ideal.ieee]
  unfold Scalar.select
  split_ifs
  · rfl
  · first | exact this | rfl

theorem mask_select (r : Fin 3) (s : Fin 8) (x : ℝ) :
    Scalar.select (if r.val = (if s.val < 6 then s.val / 3 else 2) then 1#1 else 0#1)
      (Scalar.select (IntOp.cmpi .eq (BitVec.ofNat 32 (if s.val < 6 then s.val % 3 else s.val - 6)) 0#32) (x : EReal)
        (Scalar.select (IntOp.cmpi .eq (BitVec.ofNat 32 (if s.val < 6 then s.val % 3 else s.val - 6)) 1#32) (0 : EReal) 0)) 0
      = (((if s.val = 3 * r.val then x else 0) : ℝ) : EReal) := by
  have key : ∀ (r : Fin 3) (s : Fin 8), ((if r.val = (if s.val < 6 then s.val / 3 else 2) then 1#1 else 0#1) = 1#1
      ∧ IntOp.cmpi .eq (BitVec.ofNat 32 (if s.val < 6 then s.val % 3 else s.val - 6)) 0#32 = 1#1) ↔ s.val = 3 * r.val := by decide +kernel
  specialize key r s
  have sel : ∀ (c : BitVec 1) (a b : EReal), Scalar.select c a b = if c = 1#1 then a else b := fun _ _ _ => rfl
  simp only [sel]
  by_cases ha : (if r.val = (if s.val < 6 then s.val / 3 else 2) then 1#1 else 0#1) = 1#1
  · rw [if_pos ha]
    by_cases hb : IntOp.cmpi .eq (BitVec.ofNat 32 (if s.val < 6 then s.val % 3 else s.val - 6)) 0#32 = 1#1
    · rw [if_pos hb, if_pos (key.mp ⟨ha, hb⟩)]
    · rw [if_neg hb, if_neg (fun h => hb (key.mpr h).2), ite_self]; rfl
  · rw [if_neg ha, if_neg (fun h => ha (key.mpr h).1)]; rfl

theorem pay16_at (h : IsRows x0 x1 A) (v130 : IVec S96x256 32) (v131 : IVec S96x256 1)
    (h0 : ∀ j : S96x256.Idx, v130 j = BitVec.ofNat 32 (if (j 1).val / 32 < 6 then (j 1).val / 32 % 3 else (j 1).val / 32 - 6))
    (h1 : ∀ j : S96x256.Idx, v131 j = if (j 0).val / 32 = (if (j 1).val / 32 < 6 then (j 1).val / 32 / 3 else 2) then 1#1 else 0#1) (j : S1x96x256.Idx) :
    k0_pay16 v130 v131 x0 x1 j = (((if (j 2).val / 32 = 3 * ((j 1).val / 32) then
      (∑ m, A (j 1) m * A (slotRow (j 2)) m) * (1 / 256) else 0) : ℝ) : EReal) := by
  have z := pay14_at h
  have z12 := pay12_at h
  have z10 := pay10_at h
  unfold k0_pay16 k0_pay13 k0_pay11
  generalize k0_pay14 x0 x1 = y at z
  generalize k0_pay12 x0 x1 = y12 at z12
  generalize k0_pay10 x0 x1 = y10 at z10
  pointwise
  rw [z, z12, z10, h0, h1]
  have hz : Ideal.ofBits .f32 0x00000000#32 = 0 := by simp [Ideal.ofBits, Ideal.ieee]
  have hj1 := (j 1).isLt
  change (j 1).val < 96 at hj1
  have hj2 := (j 2).isLt
  change (j 2).val < 256 at hj2
  exact mask_select ⟨(j 1).val / 32, by omega⟩ ⟨(j 2).val / 32, by omega⟩ _

/-! ## The scratch after the loop -/

variable (𝒱 : Variants) (c : Dev nD) (bd : Option 𝒱.V) (i : grid0.Coords) (arg1 : Memref sig .tc .vmem S2x2880x128 .bf16) (harg1 : arg1.IsWhole)
  (arg2 : Memref sig .tc .vmem S2880x1280 .bf16) (harg2 : arg2.IsWhole) (arg3 : Memref sig .tc .vmem S3x90x1280 .f32) (harg3 : arg3.IsWhole)
  (arg4 : Memref sig .tc .vmem S1440x1280 .i8) (harg4 : arg4.IsWhole) (arg5 : Memref sig .tc .vmem S90x1280 .i8) (harg5 : arg5.IsWhole)
  (arg6 : Memref sig .tc .vmem S30x128x256 .bf16) (harg6 : arg6.IsWhole) (k0_h1 : k0_cond1 i = 1#1)
  (v56 v81 v109 : IVec S96x256 32) (v111 : IVec S96x256 1) (v113 : BitVec 32) (v115 : IVec S96x256 32) (v117 v119 v121 : IVec S96x256 1)
  (X1 : BufTy.Contents (Elt Ideal) arg1.view.ty)

theorem trip1_pieces (k : Fin k0_t1_loop.trips) :
    ∃ inb1 inb2 inb3 inb4, tripL_k0_t1 (F := Ideal) 𝒱 c bd i arg1 harg1 arg2 harg2 arg3 harg3 arg4 harg4 arg5 harg5 arg6 harg6 k0_h1 v56 v81 v109 v111 v113 v115 v117 v119 v121 X1 k
      = [⟨Rect.unit (s := S30x128x256) (k0_off4 k) S1x32x256.size inb4, k0_pay3 (k0_pay15 v81
            (View.readAt (Elt Ideal) arg1.view (Rect.unit (s := S2x2880x128) (k0_off1 k) S1x96x128.size inb1).toLoadRect X1)
            (View.readAt (Elt Ideal) arg1.view (Rect.unit (s := S2x2880x128) (k0_off2 k) S1x96x128.size inb2).toLoadRect X1))⟩,
         ⟨Rect.unit (s := S30x128x256) (k0_off3 k) S1x96x256.size inb3, k0_pay16 (k0_pay1 v81 v111 v113 v115 v117 v119 v121) (k0_pay2 v56 v109)
            (View.readAt (Elt Ideal) arg1.view (Rect.unit (s := S2x2880x128) (k0_off1 k) S1x96x128.size inb1).toLoadRect X1)
            (View.readAt (Elt Ideal) arg1.view (Rect.unit (s := S2x2880x128) (k0_off2 k) S1x96x128.size inb2).toLoadRect X1)⟩] := by
  unfold tripL_k0_t1 trip_k0_t1
  refine ⟨_, _, _, _, rfl⟩

theorem unit_emb {s : Shape} (off size : Fin s.rank → ℕ) (inb : ∀ a, off a + size a ≤ s.size a) (x : (Rect.unit off size inb).shape.Idx) (a : Fin s.rank) :
    ((Rect.unit off size inb).emb x a).val = off a + (x a).val := by
  show off a + 1 * (x a).val = _
  omega

theorem mem_unit {s : Shape} (off size : Fin s.rank → ℕ) (inb : ∀ a, off a + size a ≤ s.size a) (y : s.Idx)
    (h : ∀ a, off a ≤ (y a).val ∧ (y a).val < off a + size a) : y ∈ (Rect.unit off size inb).set := Rect.mem_set_unit.mpr h

/-- Gram terms of block `r` of all the samples' rows. -/
def hess (A : Fin 2880 → Fin 256 → ℝ) (r : Fin 90) (i j : Fin 32) : ℝ :=
  (∑ m, A ⟨32 * r.val + i.val, by omega⟩ m * A ⟨32 * r.val + j.val, by omega⟩ m) * (1 / 256)

/-- The whole scratch. -/
def scratch (A : Fin 2880 → Fin 256 → ℝ) (y : S30x128x256.Idx) : EReal :=
  (((if hr : (y 1).val < 96 then (if (y 2).val / 32 = 3 * ((y 1).val / 32) then
    hess A ⟨3 * (y 0).val + (y 1).val / 32, by have := (y 0).isLt; change (y 0).val < 30 at this; omega⟩ ⟨(y 1).val % 32, by omega⟩ ⟨(y 2).val % 32, by omega⟩ else 0) else 0) : ℝ) : EReal)

/-- The samples' block holds these reals. -/
def IsX (x : Vec Ideal S2x2880x128 .bf16) (A : Fin 2880 → Fin 256 → ℝ) : Prop :=
  ∀ (n : Fin 2880) (m : Fin 128), x (ix3 0 n m) = ((A n ⟨m.val, by omega⟩ : ℝ) : EReal) ∧ x (ix3 1 n m) = ((A n ⟨128 + m.val, by omega⟩ : ℝ) : EReal)

theorem t1_trips : Scf.trips k0_t1_loop.lb k0_t1_loop.ub k0_t1_loop.st = 30 := by decide +kernel

theorem rows_at {A : Fin 2880 → Fin 256 → ℝ} (hX : IsX (arg1.view.read (Elt Ideal) X1) A) (k : Fin k0_t1_loop.trips) (inb1 inb2) (B : Fin 96 → Fin 256 → ℝ)
    (hB : ∀ (n : Fin 96) (h : 96 * k.val + n.val < 2880), B n = A ⟨96 * k.val + n.val, h⟩) :
    IsRows (View.readAt (Elt Ideal) arg1.view (Rect.unit (s := S2x2880x128) (k0_off1 k) S1x96x128.size inb1).toLoadRect X1)
      (View.readAt (Elt Ideal) arg1.view (Rect.unit (s := S2x2880x128) (k0_off2 k) S1x96x128.size inb2).toLoadRect X1) B := by
  intro n m
  have hk : k.val < 30 := Nat.lt_of_lt_of_le k.isLt k0_t1_abs.2.1
  have i1 : ∀ a, ![0, 96 * k.val, 0] a + S1x96x128.size a ≤ S2x2880x128.size a := k0_off1_eq k ▸ inb1
  have i2 : ∀ a, ![1, 96 * k.val, 0] a + S1x96x128.size a ≤ S2x2880x128.size a := k0_off2_eq k ▸ inb2
  rw [View.readAt_unit _ _ _ (k0_off1_eq k) i1, View.readAt_unit _ _ _ (k0_off2_eq k) i2]
  rw [hB n (by omega)]
  have e := hX ⟨96 * k.val + n.val, by omega⟩ m
  constructor
  · refine Eq.trans (congrArg (arg1.view.read (Elt Ideal) X1) ?_) e.1
    funext a; refine Fin.ext ((unit_emb (s := S2x2880x128) _ _ i1 (ix3 0 n m) a).trans ?_); fin_cases a
    · rfl
    · rfl
    · show 0 + m.val = m.val; omega
  · refine Eq.trans (congrArg (arg1.view.read (Elt Ideal) X1) ?_) e.2
    funext a; refine Fin.ext ((unit_emb (s := S2x2880x128) _ _ i2 (ix3 0 n m) a).trans ?_); fin_cases a
    · rfl
    · rfl
    · show 0 + m.val = m.val; omega

theorem hfill {A : Fin 2880 → Fin 256 → ℝ} (hX : IsX (arg1.view.read (Elt Ideal) X1) A) (f6 : BufTy.Contents (Elt Ideal) arg6.view.ty)
    (h0 : ∀ j : S96x256.Idx, k0_pay1 v81 v111 v113 v115 v117 v119 v121 j = BitVec.ofNat 32 (if (j 1).val / 32 < 6 then (j 1).val / 32 % 3 else (j 1).val / 32 - 6))
    (h1 : ∀ j : S96x256.Idx, k0_pay2 v56 v109 j = if (j 0).val / 32 = (if (j 1).val / 32 < 6 then (j 1).val / 32 / 3 else 2) then 1#1 else 0#1) (y : S30x128x256.Idx) :
    arg6.view.read (Elt Ideal) (arg6.view.writes (Elt Ideal) f6 (pb_k0_t1 (F := Ideal) 𝒱 c bd i arg1 harg1 arg2 harg2 arg3 harg3 arg4 harg4 arg5 harg5 arg6 harg6 k0_h1 v56 v81 v109 v111 v113 v115 v117 v119 v121 X1
      (Scf.trips k0_t1_loop.lb k0_t1_loop.ub k0_t1_loop.st))) y = scratch A y := by
  have key : ∀ n ≤ 30, (∀ p ∈ pb_k0_t1 (F := Ideal) 𝒱 c bd i arg1 harg1 arg2 harg2 arg3 harg3 arg4 harg4 arg5 harg5 arg6 harg6 k0_h1 v56 v81 v109 v111 v113 v115 v117 v119 v121 X1 n,
        ∀ x : p.1.shape.Idx, True → p.2 x = scratch A (p.1.emb x))
      ∧ ∀ y : S30x128x256.Idx, (y 0).val < n → ∃ p ∈ pb_k0_t1 (F := Ideal) 𝒱 c bd i arg1 harg1 arg2 harg2 arg3 harg3 arg4 harg4 arg5 harg5 arg6 harg6 k0_h1 v56 v81 v109 v111 v113 v115 v117 v119 v121 X1 n, y ∈ p.1.set := by
    intro n
    induction n with
    | zero => exact fun _ => ⟨fun p hp => absurd hp List.not_mem_nil, fun y hy => absurd hy (Nat.not_lt_zero _)⟩
    | succ n ih =>
      intro hn
      obtain ⟨ih1, ih2⟩ := ih (by omega)
      have hlt : n < k0_t1_loop.trips := lt_of_lt_of_eq (by omega : n < 30) t1_trips.symm
      rw [pb_k0_t1_succ (F := Ideal) 𝒱 c bd i arg1 harg1 arg2 harg2 arg3 harg3 arg4 harg4 arg5 harg5 arg6 harg6 k0_h1 v56 v81 v109 v111 v113 v115 v117 v119 v121 X1 ⟨n, hlt⟩]
      obtain ⟨inb1, inb2, inb3, inb4, e⟩ := trip1_pieces 𝒱 c bd i arg1 harg1 arg2 harg2 arg3 harg3 arg4 harg4 arg5 harg5 arg6 harg6 k0_h1 v56 v81 v109 v111 v113 v115 v117 v119 v121 X1 ⟨n, hlt⟩
      rw [e]
      have hr := rows_at arg1 X1 hX ⟨n, hlt⟩ inb1 inb2 (fun r => A ⟨96 * n + r.val, by omega⟩) (fun _ _ => rfl)
      generalize View.readAt (Elt Ideal) arg1.view (Rect.unit (s := S2x2880x128) (k0_off1 ⟨n, hlt⟩) S1x96x128.size inb1).toLoadRect X1 = x0 at hr ⊢
      generalize View.readAt (Elt Ideal) arg1.view (Rect.unit (s := S2x2880x128) (k0_off2 ⟨n, hlt⟩) S1x96x128.size inb2).toLoadRect X1 = x1 at hr ⊢
      have o3 := k0_off3_eq ⟨n, hlt⟩
      have o4 := k0_off4_eq ⟨n, hlt⟩
      generalize k0_off3 ⟨n, hlt⟩ = off3 at o3 inb3 ⊢
      generalize k0_off4 ⟨n, hlt⟩ = off4 at o4 inb4 ⊢
      subst o3 o4
      clear e
      have w3e := pay16_at hr _ _ h0 h1
      have w4e := pay3_at hr v81
      generalize k0_pay16 (k0_pay1 v81 v111 v113 v115 v117 v119 v121) (k0_pay2 v56 v109) x0 x1 = w3 at w3e ⊢
      generalize k0_pay3 (k0_pay15 v81 x0 x1) = w4 at w4e ⊢
      constructor
      · intro p hp x _
        simp only [List.cons_append, List.nil_append, List.mem_cons] at hp
        rcases hp with rfl | rfl | hp
        · refine (w4e x).trans ?_
          have e1 := unit_emb (s := S30x128x256) ![n, 96, 0] S1x32x256.size inb4 x 1
          unfold scratch
          rw [dif_neg (by rw [e1]; show ¬ 96 + _ < 96; omega)]
          rfl
        · refine (w3e x).trans ?_
          have e0 := unit_emb (s := S30x128x256) ![n, 0, 0] S1x96x256.size inb3 x 0
          have e1 := unit_emb (s := S30x128x256) ![n, 0, 0] S1x96x256.size inb3 x 1
          have e2 := unit_emb (s := S30x128x256) ![n, 0, 0] S1x96x256.size inb3 x 2
          have x0' : (x 0).val < 1 := (x 0).isLt
          have x1' : (x 1).val < 96 := (x 1).isLt
          change _ = n + (x 0).val at e0
          change _ = 0 + (x 1).val at e1
          change _ = 0 + (x 2).val at e2
          have l1 : ((Rect.unit (s := S30x128x256) ![n, 0, 0] S1x96x256.size inb3).emb x 1).val < 96 := by omega
          unfold scratch
          dsimp only
          generalize (Rect.unit (s := S30x128x256) ![n, 0, 0] S1x96x256.size inb3).emb x = z at e0 e1 e2 l1 ⊢
          rw [dif_pos l1]
          have c2 : (x 2).val < 256 := (x 2).isLt
          by_cases hc : (x 2).val / 32 = 3 * ((x 1).val / 32)
          · rw [if_pos hc, if_pos (by omega)]
            unfold hess
            congr 3
            funext m
            refine congrArg₂ (· * ·) (congrArg (fun r => A r m) (Fin.ext ?_)) (congrArg (fun r => A r m) (Fin.ext ?_))
            · show 96 * n + (x 1).val = 32 * (3 * (z 0).val + (z 1).val / 32) + (z 1).val % 32
              omega
            · show 96 * n + (32 * min ((x 2).val / 96) 2 + (x 2).val % 32) = 32 * (3 * (z 0).val + (z 1).val / 32) + (z 2).val % 32
              omega
          · rw [if_neg hc, if_neg (by omega)]
        · exact ih1 p hp x trivial
      · intro y hy
        by_cases hy' : (y 0).val < n
        · obtain ⟨p, hp, hm⟩ := ih2 y hy'
          exact ⟨p, List.mem_append_right _ hp, hm⟩
        · have y1 : (y 1).val < 128 := (y 1).isLt
          have y2 : (y 2).val < 256 := (y 2).isLt
          by_cases hc : (y 1).val < 96
          · refine ⟨⟨Rect.unit (s := S30x128x256) ![n, 0, 0] S1x96x256.size inb3, w3⟩, List.mem_append_left _ (List.mem_cons_of_mem _ List.mem_cons_self), ?_⟩
            refine mem_unit (s := S30x128x256) ![n, 0, 0] S1x96x256.size inb3 y fun a => ?_
            fin_cases a
            · show n ≤ (y 0).val ∧ (y 0).val < n + 1; omega
            · show 0 ≤ (y 1).val ∧ (y 1).val < 0 + 96; omega
            · show 0 ≤ (y 2).val ∧ (y 2).val < 0 + 256; omega
          · refine ⟨⟨Rect.unit (s := S30x128x256) ![n, 96, 0] S1x32x256.size inb4, w4⟩, List.mem_append_left _ List.mem_cons_self, ?_⟩
            refine mem_unit (s := S30x128x256) ![n, 96, 0] S1x32x256.size inb4 y fun a => ?_
            fin_cases a
            · show n ≤ (y 0).val ∧ (y 0).val < n + 1; omega
            · show 96 ≤ (y 1).val ∧ (y 1).val < 96 + 32; omega
            · show 0 ≤ (y 2).val ∧ (y 2).val < 0 + 256; omega
  rw [t1_trips]
  exact read_of_pieces _ _ (fun _ => True) (scratch A) _ (key 30 le_rfl).1 y trivial ((key 30 le_rfl).2 y (y 0).isLt)

end Cert.Mx

end
-- ==== Proof.Pieces.lean ====
/-
  One trip of the second counted loop: its 90 error rows, its codes and its scales, as functions of the trip's 30 slabs of weights and
  the 30 slabs of the scratch.
-/
module

public import proofs.«01_k».proof.Proof.Hfill

@[expose] public section

noncomputable section

namespace Cert.Mx

open Idealize.ShloMosaic Idealize.ShloMosaic.TcCoe Cert.KernelIdeal Cert.KernelIdeal.Gen

/-! ## What the kernel computes from one slab -/

def errK0 (W : Vec Ideal S96x256 .bf16) (H : Vec Ideal S1x128x256 .bf16) : FVec Ideal S1x3x256 .f32 :=
  k0_pay39 (F := Ideal) (gS W) (gV W) (k0_pay37 (F := Ideal) (k0_pay27 (F := Ideal) W) (k0_pay29 (F := Ideal) (k0_pay28 (F := Ideal) W)) (k0_pay30 (F := Ideal) (k0_pay28 (F := Ideal) W))
    (k0_pay31 (F := Ideal) (k0_pay28 (F := Ideal) W)) 8388608#32) (k0_pay38 (F := Ideal)) H

def errK1 (W : Vec Ideal S96x256 .bf16) (H : Vec Ideal S1x128x256 .bf16) : FVec Ideal S1x3x256 .f32 :=
  k0_pay43 (gS W) (k0_pay41 (gV W) (gEv W)) (k0_pay42 (gV W) (gEv W)) H

def errK2 (W : Vec Ideal S96x256 .bf16) (H : Vec Ideal S1x128x256 .bf16) : FVec Ideal S1x3x256 .f32 := k0_pay46 (gS W) (gV W) (gEv W) H

def errK (c : Fin 3) (W : Vec Ideal S96x256 .bf16) (H : Vec Ideal S1x128x256 .bf16) : FVec Ideal S1x3x256 .f32 :=
  ![errK0 W H, errK1 W H, errK2 W H] c

def codeK (W : Vec Ideal S96x256 .bf16) : IVec S48x256 32 := k0_pay45 (k0_pay44 (k0_pay40 (gV W) (gEv W)))

def scaleK (W : Vec Ideal S96x256 .bf16) : IVec S3x256 32 := k0_pay47 (gE0 W)

/-! ## Where the trip reads and writes -/

variable (i : grid0.Coords) (k : Fin (k0_t2_loop i).trips)

def offW : Fin 30 → Fin 2 → ℕ := ![k0_off5 i k, k0_off9 i k, k0_off13 i k, k0_off17 i k, k0_off21 i k, k0_off25 i k, k0_off29 i k, k0_off33 i k, k0_off37 i k, k0_off41 i k, k0_off45 i k, k0_off49 i k, k0_off53 i k, k0_off57 i k, k0_off61 i k, k0_off65 i k, k0_off69 i k, k0_off73 i k, k0_off77 i k, k0_off81 i k, k0_off85 i k, k0_off89 i k, k0_off93 i k, k0_off97 i k, k0_off101 i k, k0_off105 i k, k0_off109 i k, k0_off113 i k, k0_off117 i k, k0_off121 i k]

def offE (c : Fin 3) : Fin 30 → Fin 3 → ℕ := ![![k0_off6 i k, k0_off10 i k, k0_off14 i k, k0_off18 i k, k0_off22 i k, k0_off26 i k, k0_off30 i k, k0_off34 i k, k0_off38 i k, k0_off42 i k, k0_off46 i k, k0_off50 i k, k0_off54 i k, k0_off58 i k, k0_off62 i k, k0_off66 i k, k0_off70 i k, k0_off74 i k, k0_off78 i k, k0_off82 i k, k0_off86 i k, k0_off90 i k, k0_off94 i k, k0_off98 i k, k0_off102 i k, k0_off106 i k, k0_off110 i k, k0_off114 i k, k0_off118 i k, k0_off122 i k], ![k0_off7 i k, k0_off11 i k, k0_off15 i k, k0_off19 i k, k0_off23 i k, k0_off27 i k, k0_off31 i k, k0_off35 i k, k0_off39 i k, k0_off43 i k, k0_off47 i k, k0_off51 i k, k0_off55 i k, k0_off59 i k, k0_off63 i k, k0_off67 i k, k0_off71 i k, k0_off75 i k, k0_off79 i k, k0_off83 i k, k0_off87 i k, k0_off91 i k, k0_off95 i k, k0_off99 i k, k0_off103 i k, k0_off107 i k, k0_off111 i k, k0_off115 i k, k0_off119 i k, k0_off123 i k], ![k0_off8 i k, k0_off12 i k, k0_off16 i k, k0_off20 i k, k0_off24 i k, k0_off28 i k, k0_off32 i k, k0_off36 i k, k0_off40 i k, k0_off44 i k, k0_off48 i k, k0_off52 i k, k0_off56 i k, k0_off60 i k, k0_off64 i k, k0_off68 i k, k0_off72 i k, k0_off76 i k, k0_off80 i k, k0_off84 i k, k0_off88 i k, k0_off92 i k, k0_off96 i k, k0_off100 i k, k0_off104 i k, k0_off108 i k, k0_off112 i k, k0_off116 i k, k0_off120 i k, k0_off124 i k]] c

theorem offW_eq : ∀ (i : grid0.Coords) (k : Fin (k0_t2_loop i).trips) (g : Fin 30), offW i k g = ![96 * g.val, 256 * k.val] := by
  decide +kernel

theorem offE_eq : ∀ (i : grid0.Coords) (k : Fin (k0_t2_loop i).trips) (c : Fin 3) (g : Fin 30), offE i k c g = ![c.val, 3 * g.val, 256 * k.val] := by
  decide +kernel

theorem trips_le (i : grid0.Coords) : (k0_t2_loop i).trips ≤ 5 := by revert i; decide +kernel

theorem offW_inb (g : Fin 30) (a : Fin 2) : offW i k g a + S96x256.size a ≤ S2880x1280.size a := by
  rw [offW_eq]
  have := k.isLt
  have := trips_le i
  have := g.isLt
  fin_cases a
  · show 96 * g.val + 96 ≤ 2880; omega
  · show 256 * k.val + 256 ≤ 1280; omega

theorem offE_inb (c : Fin 3) (g : Fin 30) (a : Fin 3) : offE i k c g a + S1x3x256.size a ≤ S3x90x1280.size a := by
  rw [offE_eq]
  have := k.isLt
  have := trips_le i
  have := g.isLt
  have := c.isLt
  fin_cases a
  · show c.val + 1 ≤ 3; omega
  · show 3 * g.val + 3 ≤ 90; omega
  · show 256 * k.val + 256 ≤ 1280; omega

theorem offH_inb (g : Fin 30) (a : Fin 3) : (![g.val, 0, 0] : Fin 3 → ℕ) a + S1x128x256.size a ≤ S30x128x256.size a := by
  have := g.isLt
  fin_cases a
  · show g.val + 1 ≤ 30; omega
  · exact le_rfl
  · exact le_rfl

variable (arg2 : Memref sig .tc .vmem S2880x1280 .bf16) (arg6 : Memref sig .tc .vmem S30x128x256 .bf16)
  (X2 : BufTy.Contents (Elt Ideal) arg2.view.ty) (X6 : BufTy.Contents (Elt Ideal) arg6.view.ty)

/-- The trip's slab `g` of weights. -/
abbrev slabW (g : Fin 30) : Vec Ideal S96x256 .bf16 :=
  View.readAt (Elt Ideal) arg2.view (Rect.unit (s := S2880x1280) (offW i k g) S96x256.size (offW_inb i k g)).toLoadRect X2

/-- The scratch's slab `g`. -/
abbrev slabH (g : Fin 30) : Vec Ideal S1x128x256 .bf16 :=
  View.readAt (Elt Ideal) arg6.view (Rect.unit (s := S30x128x256) ![g.val, 0, 0] S1x128x256.size (offH_inb g)).toLoadRect X6

def pieceE (c : Fin 3) (g : Fin 30) : View.Piece (Elt Ideal) S3x90x1280 .f32 :=
  ⟨Rect.unit (s := S3x90x1280) (offE i k c g) S1x3x256.size (offE_inb i k c g), errK c (slabW i k arg2 X2 g) (slabH arg6 X6 g)⟩

def piecesE : (n : ℕ) → n ≤ 30 → List (View.Piece (Elt Ideal) S3x90x1280 .f32)
  | 0, _ => []
  | n + 1, h => pieceE i k arg2 arg6 X2 X6 2 ⟨n, h⟩ :: pieceE i k arg2 arg6 X2 X6 1 ⟨n, h⟩ :: pieceE i k arg2 arg6 X2 X6 0 ⟨n, h⟩
      :: piecesE n (Nat.le_of_succ_le h)

theorem off125_inb (a : Fin 2) : k0_off125 i k a + S1440x256.size a ≤ S1440x1280.size a := k0_off125_inb i k a

theorem cat48 : Shape.Concatenates ((List.ofFn fun g : Fin 30 => (⟨S48x256, codeK (slabW i k arg2 X2 g)⟩ : (s : Shape) × (s.Idx → BitVec 32))).map (·.1)) S1440x256 0 :=
  concatenates_S48x256_S48x256_S48x256_S48x256_S48x256_S48x256_S48x256_S48x256_S48x256_S48x256_S48x256_S48x256_S48x256_S48x256_S48x256_S48x256_S48x256_S48x256_S48x256_S48x256_S48x256_S48x256_S48x256_S48x256_S48x256_S48x256_S48x256_S48x256_S48x256_S48x256_S1440x256_d0

theorem cat3 : Shape.Concatenates ((List.ofFn fun g : Fin 30 => (⟨S3x256, scaleK (slabW i k arg2 X2 g)⟩ : (s : Shape) × (s.Idx → BitVec 32))).map (·.1)) S90x256 0 :=
  concatenates_S3x256_S3x256_S3x256_S3x256_S3x256_S3x256_S3x256_S3x256_S3x256_S3x256_S3x256_S3x256_S3x256_S3x256_S3x256_S3x256_S3x256_S3x256_S3x256_S3x256_S3x256_S3x256_S3x256_S3x256_S3x256_S3x256_S3x256_S3x256_S3x256_S3x256_S90x256_d0

def codesK : IVec S1440x256 8 := k0_pay4 (concatenate S1440x256 0 (List.ofFn fun g : Fin 30 => ⟨S48x256, codeK (slabW i k arg2 X2 g)⟩) (cat48 i k arg2 X2))

def scalesK : IVec S90x256 8 := k0_pay6 (concatenate S90x256 0 (List.ofFn fun g : Fin 30 => ⟨S3x256, scaleK (slabW i k arg2 X2 g)⟩) (cat3 i k arg2 X2))

variable (𝒱 : Variants) (c : Dev nD) (bd : Option 𝒱.V) (arg1 : Memref sig .tc .vmem S2x2880x128 .bf16) (harg1 : arg1.IsWhole)
  (harg2 : arg2.IsWhole) (arg3 : Memref sig .tc .vmem S3x90x1280 .f32) (harg3 : arg3.IsWhole)
  (arg4 : Memref sig .tc .vmem S1440x1280 .i8) (harg4 : arg4.IsWhole) (arg5 : Memref sig .tc .vmem S90x1280 .i8) (harg5 : arg5.IsWhole)
  (harg6 : arg6.IsWhole) (acc : BitVec 32)

/-- Lists of pieces agree when their heads and tails do. -/
theorem cons_eq {α : Type*} {a b : α} {l m : List α} (h : a = b) (t : l = m) : a :: l = b :: m := by rw [h, t]

set_option maxHeartbeats 4000000 in
theorem trip2_err :
    (trip_k0_t2 (F := Ideal) 𝒱 c bd i arg1 harg1 arg2 harg2 arg3 harg3 arg4 harg4 arg5 harg5 arg6 harg6 X2 X6 k).2.1 acc = piecesE i k arg2 arg6 X2 X6 30 le_rfl := by
  unfold trip_k0_t2
  dsimp only [piecesE]
  repeat' (refine cons_eq ?_ ?_)
  all_goals rfl

set_option maxHeartbeats 4000000 in
theorem trip2_codes :
    (trip_k0_t2 (F := Ideal) 𝒱 c bd i arg1 harg1 arg2 harg2 arg3 harg3 arg4 harg4 arg5 harg5 arg6 harg6 X2 X6 k).2.2.1 acc
      = [⟨Rect.unit (s := S1440x1280) (k0_off125 i k) S1440x256.size (k0_off125_inb i k), codesK i k arg2 X2⟩] := by
  unfold trip_k0_t2
  dsimp only
  rfl

set_option maxHeartbeats 4000000 in
theorem trip2_scales :
    (trip_k0_t2 (F := Ideal) 𝒱 c bd i arg1 harg1 arg2 harg2 arg3 harg3 arg4 harg4 arg5 harg5 arg6 harg6 X2 X6 k).2.2.2.1 acc
      = [⟨Rect.unit (s := S90x1280) (k0_off126 i k) S90x256.size (k0_off126_inb i k), scalesK i k arg2 X2⟩] := by
  unfold trip_k0_t2
  dsimp only
  rfl

end Cert.Mx

end
-- ==== Proof.Trip.lean ====
/-
  What the second counted loop writes, on the lanes that hold weights: errors, codes and scales of the columns, by the columns alone.
-/
module

public import proofs.«01_k».proof.Proof.Pieces
public import Idealize.ShloMosaic.Lib.Pipeline.Value

@[expose] public section

noncomputable section

namespace Cert.Mx

open Idealize.ShloMosaic Idealize.ShloMosaic.TcCoe Cert.KernelIdeal Cert.KernelIdeal.Gen

/-! ## The results of one column of weights -/

/-- Block `b` of a column. -/
def colBlk (col : Fin 2880 → ℝ) (b : Fin 90) : Fin 32 → ℝ := fun t => col ⟨32 * b.val + t.val, by omega⟩

/-- The error of block `b` at candidate `c - 1`. -/
def errC (A : Fin 2880 → Fin 256 → ℝ) (col : Fin 2880 → ℝ) (c : Fin 3) (b : Fin 90) : EReal :=
  ((errR (hess A b) (colBlk col b) ((c.val : ℤ) - 1) : ℝ) : EReal)

/-- The four bits of row `r`. -/
def nibC (col : Fin 2880 → ℝ) (r : Fin 2880) : BitVec 32 :=
  nibW (scl (colBlk col ⟨r.val / 32, by omega⟩) ⟨r.val % 32, by omega⟩)

/-- The byte of rows `2r` and `2r + 1`. -/
def codeC (col : Fin 2880 → ℝ) (r : Fin 1440) : BitVec 8 :=
  (IntOp.ori (nibC col ⟨r.val * 2, by omega⟩) (IntOp.shli .vector (nibC col ⟨r.val * 2 + 1, by omega⟩) 4#32)).setWidth 8

/-- The byte of block `b`'s exponent. -/
def scaleC (col : Fin 2880 → ℝ) (b : Fin 90) : BitVec 8 := (IntOp.addi (expoW (topE (colBlk col b))) 127#32).setWidth 8

/-- A block of weights holds these columns on the lanes `L`. -/
structure IsW (L : Fin 1280 → Prop) (x : Vec Ideal S2880x1280 .bf16) (Wb : Fin 1280 → Fin 2880 → ℝ) : Prop where
  at' : ∀ (n : Fin 2880) (l : Fin 1280), L l → x (ix2 n l) = ((Wb l n : ℝ) : EReal)
  blk : ∀ l, L l → ∀ b, Blk (colBlk (Wb l) b)

/-! ## One slab -/

section Slab
variable {L : Fin 256 → Prop} {w : Vec Ideal S96x256 .bf16} {U : Slab} {h : Vec Ideal S1x128x256 .bf16} {H : Fin 3 → Fin 32 → Fin 32 → ℝ}

theorem errK_at (hw : IsSlab L w U) (hh : IsH h H) (c : Fin 3) (j : S1x3x256.Idx) (hl : L (j 2)) :
    errK c w h j = ((errR (H (j 1)) (U (j 1) (j 2)) ((c.val : ℤ) - 1) : ℝ) : EReal) := by
  have a0 : errK0 w h j = ((errR (H (j 1)) (U (j 1) (j 2)) (-1) : ℝ) : EReal) := by
    unfold errK0
    have hq := q0_at hw
    generalize k0_pay37 (F := Ideal) (k0_pay27 (F := Ideal) w) (k0_pay29 (F := Ideal) (k0_pay28 (F := Ideal) w)) (k0_pay30 (F := Ideal) (k0_pay28 (F := Ideal) w))
      (k0_pay31 (F := Ideal) (k0_pay28 (F := Ideal) w)) 8388608#32 = q at hq ⊢
    rw [pay39_eq]
    exact err_at hw hh (-1) hq j hl
  have a1 : errK1 w h j = ((errR (H (j 1)) (U (j 1) (j 2)) 0 : ℝ) : EReal) := by
    have e := err_at hw hh 0 (q1_at hw) j hl
    unfold errK1
    have e41 : ∀ a b, k0_pay41 (F := Ideal) a b = subf a (k0_pay40 (F := Ideal) a b) := fun _ _ => rfl
    have e42 : ∀ a b, k0_pay42 (F := Ideal) a b = slice0 (k0_pay41 (F := Ideal) a b) := fun _ _ => rfl
    rw [e42, pay43_eq, e41]
    exact e
  have a2 : errK2 w h j = ((errR (H (j 1)) (U (j 1) (j 2)) 1 : ℝ) : EReal) := by
    have e := err_at hw hh 1 (q2_at hw) j hl
    unfold errK2
    rw [pay46_eq]
    exact e
  fin_cases c
  · exact a0.trans (by norm_num)
  · exact a1.trans (by norm_num)
  · exact a2.trans (by norm_num)

theorem nibK_at (hw : IsSlab L w U) (j : S96x256.Idx) (hl : L (ln j)) :
    k0_pay44 (k0_pay40 (gV w) (gEv w)) j = nibW (scl (U (rb j) (ln j)) (ri j)) := by
  refine nib_at ((q1_at hw j hl).trans ?_)
  unfold Q
  norm_num

theorem codeK_at (hw : IsSlab L w U) (j : S48x256.Idx) (hl : L (j 1)) :
    codeK w j = IntOp.ori (nibW (scl (U ⟨(j 0).val * 2 / 32, by have := (j 0).isLt; change (j 0).val < 48 at this; omega⟩ (j 1)) ⟨(j 0).val * 2 % 32, by omega⟩))
      (IntOp.shli .vector (nibW (scl (U ⟨((j 0).val * 2 + 1) / 32, by have := (j 0).isLt; change (j 0).val < 48 at this; omega⟩ (j 1)) ⟨((j 0).val * 2 + 1) % 32, by omega⟩)) 4#32) := by
  unfold codeK
  have hn := nibK_at hw
  generalize k0_pay44 (k0_pay40 (gV w) (gEv w)) = n at hn ⊢
  rw [code_at, hn _ hl, hn _ hl]
  rfl

theorem scaleK_at (hw : IsSlab L w U) (j : S3x256.Idx) (hl : L (j 1)) : scaleK w j = IntOp.addi (expoW (topE (U (j 0) (j 1)))) 127#32 := by
  unfold scaleK
  have he := e0_at hw
  generalize gE0 w = e at he ⊢
  rw [scale_at, he (ix3 (j 0) 0 (j 1)) hl]
  rfl

end Slab

/-! ## One trip -/

section Trip
variable (i : grid0.Coords) (k : Fin (k0_t2_loop i).trips)
  (arg2 : Memref sig .tc .vmem S2880x1280 .bf16) (arg6 : Memref sig .tc .vmem S30x128x256 .bf16)
  (X2 : BufTy.Contents (Elt Ideal) arg2.view.ty) (X6 : BufTy.Contents (Elt Ideal) arg6.view.ty)
  {L : Fin 1280 → Prop} {Wb : Fin 1280 → Fin 2880 → ℝ} {A : Fin 2880 → Fin 256 → ℝ}

include k in
theorem k_lt : k.val < 5 := lt_of_lt_of_le k.isLt (trips_le i)

/-- Lane `l` of the trip's pair of tiles. -/
abbrev lane (l : Fin 256) : Fin 1280 := ⟨256 * k.val + l.val, by have := k_lt i k; omega⟩

theorem slabW_is (hW : IsW L (arg2.view.read (Elt Ideal) X2) Wb) (g : Fin 30) :
    IsSlab (fun l => L (lane i k l)) (slabW i k arg2 X2 g) fun b l => colBlk (Wb (lane i k l)) ⟨3 * g.val + b.val, by omega⟩ where
  at' j hl := by
    have hj : (j 0).val < 96 := (j 0).isLt
    have e := hW.at' ⟨96 * g.val + (j 0).val, by omega⟩ (lane i k (j 1)) hl
    have hk := k_lt i k
    have i1 : ∀ a, ![96 * g.val, 256 * k.val] a + S96x256.size a ≤ S2880x1280.size a := offW_eq i k g ▸ offW_inb i k g
    rw [slabW, View.readAt_unit _ _ _ (offW_eq i k g) i1]
    refine Eq.trans (congrArg (arg2.view.read (Elt Ideal) X2) ?_) (e.trans ?_)
    · funext a; refine Fin.ext ((unit_emb (s := S2880x1280) _ _ i1 j a).trans ?_); fin_cases a <;> rfl
    · refine congrArg (fun n : Fin 2880 => ((Wb (lane i k (j 1)) n : ℝ) : EReal)) (Fin.ext ?_)
      show 96 * g.val + (j 0).val = 32 * (3 * g.val + (j 0).val / 32) + (j 0).val % 32
      omega
  blk b l hl := hW.blk _ hl _

theorem slabH_is (hH : ∀ y, arg6.view.read (Elt Ideal) X6 y = scratch A y) (g : Fin 30) :
    IsH (slabH arg6 X6 g) fun b => hess A ⟨3 * g.val + b.val, by omega⟩ where
  at' r c := by
    have i1 : ∀ a, ![g.val, 0, 0] a + S1x128x256.size a ≤ S30x128x256.size a := offH_inb g
    have e := hH (ix3 g r c)
    refine Eq.trans (congrArg (arg6.view.read (Elt Ideal) X6) ?_) (e.trans ?_)
    · funext a; refine Fin.ext ((unit_emb (s := S30x128x256) _ _ i1 (ix3 0 r c) a).trans ?_); fin_cases a
      · rfl
      · show 0 + r.val = r.val; omega
      · show 0 + c.val = c.val; omega
    · rfl

/-- What the loop leaves in the error block. -/
def gErr (A : Fin 2880 → Fin 256 → ℝ) (Wb : Fin 1280 → Fin 2880 → ℝ) (y : S3x90x1280.Idx) : EReal := errC A (Wb (y 2)) (y 0) (y 1)

def gCode (Wb : Fin 1280 → Fin 2880 → ℝ) (y : S1440x1280.Idx) : BitVec 8 := codeC (Wb (y 1)) (y 0)

def gScale (Wb : Fin 1280 → Fin 2880 → ℝ) (y : S90x1280.Idx) : BitVec 8 := scaleC (Wb (y 1)) (y 0)

theorem pieceE_at (hW : IsW L (arg2.view.read (Elt Ideal) X2) Wb) (hH : ∀ y, arg6.view.read (Elt Ideal) X6 y = scratch A y) (c : Fin 3) (g : Fin 30)
    (x : S1x3x256.Idx) (hl : L ((Rect.unit (s := S3x90x1280) (offE i k c g) S1x3x256.size (offE_inb i k c g)).emb x 2)) :
    errK c (slabW i k arg2 X2 g) (slabH arg6 X6 g) x = gErr A Wb ((Rect.unit (s := S3x90x1280) (offE i k c g) S1x3x256.size (offE_inb i k c g)).emb x) := by
  have hx : (x 0).val < 1 := (x 0).isLt
  have he : (Rect.unit (s := S3x90x1280) (offE i k c g) S1x3x256.size (offE_inb i k c g)).emb x = ix3 c ⟨3 * g.val + (x 1).val, by have := (x 1).isLt; change (x 1).val < 3 at this; omega⟩ (lane i k (x 2)) := by
    funext a
    have h := unit_emb (s := S3x90x1280) (offE i k c g) S1x3x256.size (offE_inb i k c g) x a
    have h' := congrFun (offE_eq i k c g) a
    rw [h'] at h
    refine Fin.ext (h.trans ?_)
    fin_cases a
    · show c.val + (x 0).val = c.val; omega
    · rfl
    · rfl
  rw [he] at hl ⊢
  rw [errK_at (slabW_is i k arg2 X2 hW g) (slabH_is arg6 X6 hH g) c x hl]
  rfl

theorem mem_piecesE (p : View.Piece (Elt Ideal) S3x90x1280 .f32) : ∀ (n : ℕ) (h : n ≤ 30),
    p ∈ piecesE i k arg2 arg6 X2 X6 n h ↔ ∃ (c : Fin 3) (g : Fin 30), g.val < n ∧ p = pieceE i k arg2 arg6 X2 X6 c g
  | 0, h => by simp [piecesE]
  | n + 1, h => by
    rw [piecesE, List.mem_cons, List.mem_cons, List.mem_cons, mem_piecesE p n]
    constructor
    · rintro (rfl | rfl | rfl | ⟨c, g, hg, rfl⟩)
      · exact ⟨2, ⟨n, h⟩, Nat.lt_succ_self n, rfl⟩
      · exact ⟨1, ⟨n, h⟩, Nat.lt_succ_self n, rfl⟩
      · exact ⟨0, ⟨n, h⟩, Nat.lt_succ_self n, rfl⟩
      · exact ⟨c, g, by omega, rfl⟩
    · rintro ⟨c, g, hg, rfl⟩
      by_cases hn : g.val < n
      · exact Or.inr (Or.inr (Or.inr ⟨c, g, hn, rfl⟩))
      · obtain rfl : g = ⟨n, h⟩ := Fin.ext (by show g.val = n; omega)
        fin_cases c
        · exact Or.inr (Or.inr (Or.inl rfl))
        · exact Or.inr (Or.inl rfl)
        · exact Or.inl rfl

theorem off125_eq : ∀ (i : grid0.Coords) (k : Fin (k0_t2_loop i).trips), k0_off125 i k = ![0, 256 * k.val] := by decide +kernel

theorem off126_eq : ∀ (i : grid0.Coords) (k : Fin (k0_t2_loop i).trips), k0_off126 i k = ![0, 256 * k.val] := by decide +kernel

theorem pieceC_at (hW : IsW L (arg2.view.read (Elt Ideal) X2) Wb) (x : S1440x256.Idx)
    (hl : L ((Rect.unit (s := S1440x1280) (k0_off125 i k) S1440x256.size (k0_off125_inb i k)).emb x 1)) :
    codesK i k arg2 X2 x = gCode Wb ((Rect.unit (s := S1440x1280) (k0_off125 i k) S1440x256.size (k0_off125_inb i k)).emb x) := by
  have hx : (x 0).val < 1440 := (x 0).isLt
  have he : (Rect.unit (s := S1440x1280) (k0_off125 i k) S1440x256.size (k0_off125_inb i k)).emb x = ix2 (x 0) (lane i k (x 1)) := by
    funext a
    have h := unit_emb (s := S1440x1280) (k0_off125 i k) S1440x256.size (k0_off125_inb i k) x a
    have h' := congrFun (off125_eq i k) a
    rw [h'] at h
    refine Fin.ext (h.trans ?_)
    fin_cases a
    · show 0 + (x 0).val = (x 0).val; omega
    · rfl
  rw [he] at hl ⊢
  have hs := fun g => codeK_at (slabW_is i k arg2 X2 hW g)
  have e4 : ∀ (v : IVec S1440x256 32), k0_pay4 v x = (v x).setWidth 8 := fun _ => rfl
  unfold codesK
  rw [e4, concatenate_ofFn_apply (s₁ := S48x256) 0 (fun g : Fin 30 => codeK (slabW i k arg2 X2 g)) (cat48 i k arg2 X2) rfl 48 rfl x ⟨(x 0).val / 48, by omega⟩ rfl
    (ix2 ⟨(x 0).val % 48, by omega⟩ (x 1)) rfl (fun b hb => by
      fin_cases b
      · exact absurd rfl hb
      · rfl)]
  rw [hs ⟨(x 0).val / 48, by omega⟩ (ix2 ⟨(x 0).val % 48, by omega⟩ (x 1)) hl]
  unfold gCode codeC nibC
  refine congrArg (BitVec.setWidth 8) (congrArg₂ _ (congrArg nibW (congrArg₂ scl (congrArg (colBlk _) (Fin.ext ?_)) (Fin.ext ?_)))
    (congrArg (IntOp.shli .vector · 4#32) (congrArg nibW (congrArg₂ scl (congrArg (colBlk _) (Fin.ext ?_)) (Fin.ext ?_)))))
  · show 3 * ((x 0).val / 48) + (x 0).val % 48 * 2 / 32 = (x 0).val * 2 / 32; omega
  · show (x 0).val % 48 * 2 % 32 = (x 0).val * 2 % 32; omega
  · show 3 * ((x 0).val / 48) + ((x 0).val % 48 * 2 + 1) / 32 = ((x 0).val * 2 + 1) / 32; omega
  · show ((x 0).val % 48 * 2 + 1) % 32 = ((x 0).val * 2 + 1) % 32; omega

theorem pieceS_at (hW : IsW L (arg2.view.read (Elt Ideal) X2) Wb) (x : S90x256.Idx)
    (hl : L ((Rect.unit (s := S90x1280) (k0_off126 i k) S90x256.size (k0_off126_inb i k)).emb x 1)) :
    scalesK i k arg2 X2 x = gScale Wb ((Rect.unit (s := S90x1280) (k0_off126 i k) S90x256.size (k0_off126_inb i k)).emb x) := by
  have hx : (x 0).val < 90 := (x 0).isLt
  have he : (Rect.unit (s := S90x1280) (k0_off126 i k) S90x256.size (k0_off126_inb i k)).emb x = ix2 (x 0) (lane i k (x 1)) := by
    funext a
    have h := unit_emb (s := S90x1280) (k0_off126 i k) S90x256.size (k0_off126_inb i k) x a
    have h' := congrFun (off126_eq i k) a
    rw [h'] at h
    refine Fin.ext (h.trans ?_)
    fin_cases a
    · show 0 + (x 0).val = (x 0).val; omega
    · rfl
  rw [he] at hl ⊢
  have hs := fun g => scaleK_at (slabW_is i k arg2 X2 hW g)
  have e6 : ∀ (v : IVec S90x256 32), k0_pay6 v x = (v x).setWidth 8 := fun _ => rfl
  unfold scalesK
  rw [e6, concatenate_ofFn_apply (s₁ := S3x256) 0 (fun g : Fin 30 => scaleK (slabW i k arg2 X2 g)) (cat3 i k arg2 X2) rfl 3 rfl x ⟨(x 0).val / 3, by omega⟩ rfl
    (ix2 ⟨(x 0).val % 3, by omega⟩ (x 1)) rfl (fun b hb => by
      fin_cases b
      · exact absurd rfl hb
      · rfl)]
  rw [hs ⟨(x 0).val / 3, by omega⟩ (ix2 ⟨(x 0).val % 3, by omega⟩ (x 1)) hl]
  unfold gScale scaleC
  refine congrArg (BitVec.setWidth 8) (congrArg (IntOp.addi · 127#32) (congrArg expoW (congrArg topE (congrArg (colBlk _) (Fin.ext ?_)))))
  show 3 * ((x 0).val / 3) + (x 0).val % 3 = (x 0).val
  omega

end Trip

/-! ## All trips -/

section Loop
variable (𝒱 : Variants) (c : Dev nD) (bd : Option 𝒱.V) (i : grid0.Coords) (arg1 : Memref sig .tc .vmem S2x2880x128 .bf16) (harg1 : arg1.IsWhole)
  (arg2 : Memref sig .tc .vmem S2880x1280 .bf16) (harg2 : arg2.IsWhole) (arg3 : Memref sig .tc .vmem S3x90x1280 .f32) (harg3 : arg3.IsWhole)
  (arg4 : Memref sig .tc .vmem S1440x1280 .i8) (harg4 : arg4.IsWhole) (arg5 : Memref sig .tc .vmem S90x1280 .i8) (harg5 : arg5.IsWhole)
  (arg6 : Memref sig .tc .vmem S30x128x256 .bf16) (harg6 : arg6.IsWhole)
  (X2 : BufTy.Contents (Elt Ideal) arg2.view.ty) (X6 : BufTy.Contents (Elt Ideal) arg6.view.ty) (init : BitVec 32)
  {L : Fin 1280 → Prop} {Wb : Fin 1280 → Fin 2880 → ℝ} {A : Fin 2880 → Fin 256 → ℝ}

abbrev st2 (n : ℕ) := st_k0_t2 (F := Ideal) 𝒱 c bd i arg1 harg1 arg2 harg2 arg3 harg3 arg4 harg4 arg5 harg5 arg6 harg6 X2 X6 init n

theorem loop_err (hW : IsW L (arg2.view.read (Elt Ideal) X2) Wb) (hH : ∀ y, arg6.view.read (Elt Ideal) X6 y = scratch A y) : ∀ n, n ≤ (k0_t2_loop i).trips →
    (∀ p ∈ (st2 𝒱 c bd i arg1 harg1 arg2 harg2 arg3 harg3 arg4 harg4 arg5 harg5 arg6 harg6 X2 X6 init n).2.1, ∀ x : p.1.shape.Idx, L (p.1.emb x 2) → p.2 x = gErr A Wb (p.1.emb x))
    ∧ ∀ y : S3x90x1280.Idx, (y 2).val < 256 * n → ∃ p ∈ (st2 𝒱 c bd i arg1 harg1 arg2 harg2 arg3 harg3 arg4 harg4 arg5 harg5 arg6 harg6 X2 X6 init n).2.1, y ∈ p.1.set := by
  intro n
  induction n with
  | zero => exact fun _ => ⟨fun p hp => absurd hp List.not_mem_nil, fun y hy => absurd hy (Nat.not_lt_zero _)⟩
  | succ n ih =>
    intro hn
    obtain ⟨ih1, ih2⟩ := ih (by omega)
    have e := congrArg (fun s => s.2.1) (st_k0_t2_succ (F := Ideal) 𝒱 c bd i arg1 harg1 arg2 harg2 arg3 harg3 arg4 harg4 arg5 harg5 arg6 harg6 X2 X6 init ⟨n, hn⟩)
    dsimp only at e
    rw [trip2_err] at e
    unfold st2 at ih1 ih2 ⊢
    rw [e]
    constructor
    · intro p hp x hl
      rcases List.mem_append.mp hp with hp | hp
      · obtain ⟨c', g, _, rfl⟩ := (mem_piecesE _ _ _ _ _ _ p 30 le_rfl).mp hp
        exact pieceE_at i ⟨n, hn⟩ arg2 arg6 X2 X6 hW hH c' g x hl
      · exact ih1 p hp x hl
    · intro y hy
      by_cases hy' : (y 2).val < 256 * n
      · obtain ⟨p, hp, hm⟩ := ih2 y hy'
        exact ⟨p, List.mem_append_right _ hp, hm⟩
      · have y1 : (y 1).val < 90 := (y 1).isLt
        have y0 : (y 0).val < 3 := (y 0).isLt
        refine ⟨pieceE i ⟨n, hn⟩ arg2 arg6 X2 X6 ⟨(y 0).val, y0⟩ ⟨(y 1).val / 3, by omega⟩, List.mem_append_left _ ((mem_piecesE _ _ _ _ _ _ _ 30 le_rfl).mpr ⟨_, _, by show _ < 30; omega, rfl⟩), ?_⟩
        refine mem_unit (s := S3x90x1280) (offE i ⟨n, hn⟩ ⟨(y 0).val, y0⟩ ⟨(y 1).val / 3, by omega⟩) S1x3x256.size (offE_inb i ⟨n, hn⟩ _ _) y fun a => ?_
        rw [offE_eq]
        fin_cases a
        · show (y 0).val ≤ (y 0).val ∧ (y 0).val < (y 0).val + 1; omega
        · show 3 * ((y 1).val / 3) ≤ (y 1).val ∧ (y 1).val < 3 * ((y 1).val / 3) + 3; omega
        · show 256 * n ≤ (y 2).val ∧ (y 2).val < 256 * n + 256; omega

theorem loop_code (hW : IsW L (arg2.view.read (Elt Ideal) X2) Wb) : ∀ n, n ≤ (k0_t2_loop i).trips →
    (∀ p ∈ (st2 𝒱 c bd i arg1 harg1 arg2 harg2 arg3 harg3 arg4 harg4 arg5 harg5 arg6 harg6 X2 X6 init n).2.2.1, ∀ x : p.1.shape.Idx, L (p.1.emb x 1) → p.2 x = gCode Wb (p.1.emb x))
    ∧ ∀ y : S1440x1280.Idx, (y 1).val < 256 * n → ∃ p ∈ (st2 𝒱 c bd i arg1 harg1 arg2 harg2 arg3 harg3 arg4 harg4 arg5 harg5 arg6 harg6 X2 X6 init n).2.2.1, y ∈ p.1.set := by
  intro n
  induction n with
  | zero => exact fun _ => ⟨fun p hp => absurd hp List.not_mem_nil, fun y hy => absurd hy (Nat.not_lt_zero _)⟩
  | succ n ih =>
    intro hn
    obtain ⟨ih1, ih2⟩ := ih (by omega)
    have e := congrArg (fun s => s.2.2.1) (st_k0_t2_succ (F := Ideal) 𝒱 c bd i arg1 harg1 arg2 harg2 arg3 harg3 arg4 harg4 arg5 harg5 arg6 harg6 X2 X6 init ⟨n, hn⟩)
    dsimp only at e
    rw [trip2_codes] at e
    unfold st2 at ih1 ih2 ⊢
    rw [e]
    constructor
    · intro p hp x hl
      rcases List.mem_append.mp hp with hp | hp
      · obtain rfl := List.mem_singleton.mp hp
        exact pieceC_at i ⟨n, hn⟩ arg2 X2 hW x hl
      · exact ih1 p hp x hl
    · intro y hy
      by_cases hy' : (y 1).val < 256 * n
      · obtain ⟨p, hp, hm⟩ := ih2 y hy'
        exact ⟨p, List.mem_append_right _ hp, hm⟩
      · have y0 : (y 0).val < 1440 := (y 0).isLt
        refine ⟨_, List.mem_append_left _ (List.mem_singleton_self _), ?_⟩
        refine mem_unit (s := S1440x1280) (k0_off125 i ⟨n, hn⟩) S1440x256.size (k0_off125_inb i ⟨n, hn⟩) y fun a => ?_
        rw [off125_eq]
        fin_cases a
        · show 0 ≤ (y 0).val ∧ (y 0).val < 0 + 1440; omega
        · show 256 * n ≤ (y 1).val ∧ (y 1).val < 256 * n + 256; omega

theorem loop_scale (hW : IsW L (arg2.view.read (Elt Ideal) X2) Wb) : ∀ n, n ≤ (k0_t2_loop i).trips →
    (∀ p ∈ (st2 𝒱 c bd i arg1 harg1 arg2 harg2 arg3 harg3 arg4 harg4 arg5 harg5 arg6 harg6 X2 X6 init n).2.2.2, ∀ x : p.1.shape.Idx, L (p.1.emb x 1) → p.2 x = gScale Wb (p.1.emb x))
    ∧ ∀ y : S90x1280.Idx, (y 1).val < 256 * n → ∃ p ∈ (st2 𝒱 c bd i arg1 harg1 arg2 harg2 arg3 harg3 arg4 harg4 arg5 harg5 arg6 harg6 X2 X6 init n).2.2.2, y ∈ p.1.set := by
  intro n
  induction n with
  | zero => exact fun _ => ⟨fun p hp => absurd hp List.not_mem_nil, fun y hy => absurd hy (Nat.not_lt_zero _)⟩
  | succ n ih =>
    intro hn
    obtain ⟨ih1, ih2⟩ := ih (by omega)
    have e := congrArg (fun s => s.2.2.2) (st_k0_t2_succ (F := Ideal) 𝒱 c bd i arg1 harg1 arg2 harg2 arg3 harg3 arg4 harg4 arg5 harg5 arg6 harg6 X2 X6 init ⟨n, hn⟩)
    dsimp only at e
    rw [trip2_scales] at e
    unfold st2 at ih1 ih2 ⊢
    rw [e]
    constructor
    · intro p hp x hl
      rcases List.mem_append.mp hp with hp | hp
      · obtain rfl := List.mem_singleton.mp hp
        exact pieceS_at i ⟨n, hn⟩ arg2 X2 hW x hl
      · exact ih1 p hp x hl
    · intro y hy
      by_cases hy' : (y 1).val < 256 * n
      · obtain ⟨p, hp, hm⟩ := ih2 y hy'
        exact ⟨p, List.mem_append_right _ hp, hm⟩
      · have y0 : (y 0).val < 90 := (y 0).isLt
        refine ⟨_, List.mem_append_left _ (List.mem_singleton_self _), ?_⟩
        refine mem_unit (s := S90x1280) (k0_off126 i ⟨n, hn⟩) S90x256.size (k0_off126_inb i ⟨n, hn⟩) y fun a => ?_
        rw [off126_eq]
        fin_cases a
        · show 0 ≤ (y 0).val ∧ (y 0).val < 0 + 90; omega
        · show 256 * n ≤ (y 1).val ∧ (y 1).val < 256 * n + 256; omega

end Loop

end Cert.Mx

end
-- ==== Proof.RefExpo.lean ====
/-
  The reference, first part: the weights of a block, their largest magnitude, the block's exponent and the three candidates' powers of two.
-/
module

public import proofs.«01_k».proof.Proof.Trip
public import proofs.«01_k».proof.Proof.Gen.ReferenceIdeal.Read
public import Idealize.ShloMosaic.Lib.StableHlo.Predicate

@[expose] public section

noncomputable section

namespace Cert.Mx

open Idealize.ShloMosaic Idealize.ShloMosaic.TcCoe Cert.ReferenceIdeal Cert.ReferenceIdeal.Gen Cert.ReferenceIdeal.Read

/-! ## Scalars -/

theorem select_lt (a b : ℝ) {α : Type} (x y : α) :
    Scalar.select (FloatOps.cmpf (F := Ideal) (φ := .f32) .olt (a : EReal) (b : EReal)) x y = if a < b then x else y := by
  show (if Ideal.cmp .olt (a : EReal) (b : EReal) = 1#1 then x else y) = _
  by_cases h : a < b <;> simp [Ideal.cmp, h]

theorem select_eq (a b : ℝ) {α : Type} (x y : α) :
    Scalar.select (FloatOps.cmpf (F := Ideal) (φ := .f32) .oeq (a : EReal) (b : EReal)) x y = if a = b then x else y := by
  show (if Ideal.cmp .oeq (a : EReal) (b : EReal) = 1#1 then x else y) = _
  by_cases h : a = b <;> simp [Ideal.cmp, h]

theorem cmp_ge (a b : ℝ) : (FloatOps.cmpf (F := Ideal) (φ := .f32) .oge (a : EReal) (b : EReal)).setWidth 32 = if b ≤ a then 1#32 else 0#32 := by
  show (Ideal.cmp .oge (a : EReal) (b : EReal)).setWidth 32 = _
  by_cases h : b ≤ a <;> simp [Ideal.cmp, h]

theorem pow_two (z : ℤ) : FloatOps.hostPowf (F := Ideal) (φ := .f32) ((2 : ℝ) : EReal) ((z : ℝ) : EReal) = (((2 : ℝ) ^ z : ℝ) : EReal) := by
  show ((Real.rpow 2 (z : ℝ) : ℝ) : EReal) = _
  rw [← Real.rpow_intCast]
  rfl

theorem ofBits_f0 : Ideal.ofBits .f32 0x00000000#32 = ((0 : ℝ) : EReal) := by simp [Ideal.ofBits, Ideal.ieee]

/-! ## The weights -/

/-- The weights are these reals. -/
def IsWt (x1 : (⟨S5760x2880, .bf16⟩ : BufTy).Contents (Elt Ideal)) (Wt : Fin 5760 → Fin 2880 → ℝ) : Prop :=
  ∀ o n, x1 (ix2 o n) = ((Wt o n : ℝ) : EReal)

variable {x1 : (⟨S5760x2880, .bf16⟩ : BufTy).Contents (Elt Ideal)} {Wt : Fin 5760 → Fin 2880 → ℝ}

theorem wb_at (h : IsWt x1 Wt) (i : S5760x90x32.Idx) : val_main_v5 (F := Ideal) x1 i = ((colBlk (Wt (i 0)) (i 1) (i 2) : ℝ) : EReal) := by
  have h0 : (i 0).val < 5760 := (i 0).isLt
  have h1 : (i 1).val < 90 := (i 1).isLt
  have h2 : (i 2).val < 32 := (i 2).isLt
  rw [val_main_v5_apply, val_main_v4_apply]
  have e : idx_main_v5 i = ix2 (i 0) ⟨32 * (i 1).val + (i 2).val, by omega⟩ := by
    funext a
    match a with
    | ⟨0, _⟩ => exact Fin.ext (by show (((i 0).val * 90 + (i 1).val) * 32 + (i 2).val) / 2880 = (i 0).val; omega)
    | ⟨1, _⟩ => exact Fin.ext (by show (((i 0).val * 90 + (i 1).val) * 32 + (i 2).val) % 2880 = 32 * (i 1).val + (i 2).val; omega)
  rw [e]
  exact h _ _

/-! ## The largest magnitude -/

theorem fold_max_reals {n : ℕ} (f : Fin (n + 1) → ℝ) : ∃ t : ℝ, Finset.fold max (⊥ : EReal) (fun k => ((f k : ℝ) : EReal)) Finset.univ = (t : EReal)
    ∧ (∀ k, f k ≤ t) ∧ ∃ k, t = f k := by
  obtain ⟨i, _, hi⟩ := Finset.exists_mem_eq_sup Finset.univ Finset.univ_nonempty (fun k => ((f k : ℝ) : EReal))
  refine ⟨f i, hi, fun k => ?_, i, rfl⟩
  have := Finset.le_sup (f := fun k => ((f k : ℝ) : EReal)) (Finset.mem_univ k)
  rw [hi] at this
  exact EReal.coe_le_coe_iff.mp this

theorem lift_blk (h : S5760x90x32.Reduces [2] S5760x90) (j : S5760x90.Idx) (k : Fin 32) : h.lift j k = ix3 (j 0) (j 1) k := by
  funext a
  match a with
  | ⟨0, _⟩ => exact Fin.ext ((h.lift_val j k _).trans rfl)
  | ⟨1, _⟩ => exact Fin.ext ((h.lift_val j k _).trans rfl)
  | ⟨2, _⟩ => exact Fin.ext ((h.lift_val j k _).trans rfl)

theorem lift_pow (h : S5760x90x254.Reduces [2] S5760x90) (j : S5760x90.Idx) (k : Fin 254) : h.lift j k = ix3 (j 0) (j 1) k := by
  funext a
  match a with
  | ⟨0, _⟩ => exact Fin.ext ((h.lift_val j k _).trans rfl)
  | ⟨1, _⟩ => exact Fin.ext ((h.lift_val j k _).trans rfl)
  | ⟨2, _⟩ => exact Fin.ext ((h.lift_val j k _).trans rfl)

/-- The largest magnitude of a block. -/
theorem amax_at (h : IsWt x1 Wt) (j : S5760x90.Idx) : ∃ t : ℝ, val_main_v7 (F := Ideal) x1 j = (t : EReal)
    ∧ (∀ k, |colBlk (Wt (j 0)) (j 1) k| ≤ t) ∧ ∃ k, t = |colBlk (Wt (j 0)) (j 1) k| := by
  have key := fold_max_reals fun k : Fin 32 => |colBlk (Wt (j 0)) (j 1) k|
  have hr : S5760x90x32.Reduces [2] S5760x90 := by decide
  have hv : ∀ i, val_main_v6 (F := Ideal) x1 i = ((|colBlk (Wt (i 0)) (i 1) (i 2)| : ℝ) : EReal) := fun i => by
    rw [val_main_v6_apply, wb_at h]
    exact abs_coe _
  unfold val_main_v7
  generalize val_main_v6 (F := Ideal) x1 = y at hv
  have e : y ∘ hr.lift j = fun k : Fin 32 => ((|colBlk (Wt (j 0)) (j 1) k| : ℝ) : EReal) := by
    funext k
    exact (congrArg y (lift_blk hr j k)).trans (hv _)
  have hb : val_main_cst_0 (F := Ideal) (Shape.Idx.first h_S_) = (⊥ : EReal) := by
    show Ideal.ofBits .f32 0xFF800000#32 = _
    simp [Ideal.ofBits, Ideal.ieee]
  obtain ⟨t, ht, h1, h2⟩ := key
  refine ⟨t, ?_, h1, h2⟩
  refine (Host.reduce_eq_fold_single (FloatOps.maximumf (F := Ideal) (φ := .f32)) y _ reducesTo_S5760x90x32_S5760x90_d2 hr h_S_ j).trans ?_
  rw [e, hb]
  exact ht

theorem count_amax {u : Fin 32 → ℝ} {t : ℝ} (h1 : ∀ k, |u k| ≤ t) (h2 : ∃ k, t = |u k|) : count t = topE u := by
  obtain ⟨k, rfl⟩ := h2
  exact le_antisymm (count_le_topE u k) (Finset.sup_le fun i _ => count_mono (h1 i))

/-! ## The exponent -/

theorem pow_at (i : S254.Idx) : val_main_v13 (F := Ideal) i = (((2 : ℝ) ^ (((i 0).val : ℤ) - 126) : ℝ) : EReal) := by
  have h0 : (i 0).val < 254 := (i 0).isLt
  rw [val_main_v13_apply, val_main_v12_apply, val_main_v11_apply, val_main_v10_apply, val_main_v9_apply, val_main_v8_apply, ← pow_two]
  have e1 : val_main_cst_2 (F := Ideal) (idx_main_v12 i) = ((2 : ℝ) : EReal) := ofBits_f2
  have e2 : val_main_cst_1 (F := Ideal) (idx_main_v10 i) = ((126 : ℝ) : EReal) := ofBits_f126
  rw [e1, e2]
  congr 1
  show (((BitVec.ofNat 32 (i 0).val).toInt : ℝ) : EReal) - ((126 : ℝ) : EReal) = _
  have e3 : ∀ k : Fin 254, (BitVec.ofNat 32 k.val).toInt = (k.val : ℤ) := by decide +kernel
  rw [← EReal.coe_sub, e3 ⟨(i 0).val, h0⟩]
  push_cast
  rfl

theorem count_at (h : IsWt x1 Wt) (j : S5760x90.Idx) : val_main_v20 (F := Ideal) x1 j = BitVec.ofNat 32 (topE (colBlk (Wt (j 0)) (j 1))) := by
  obtain ⟨t, ht, h1, h2⟩ := amax_at h j
  rw [← count_amax h1 h2]
  have hr : S5760x90x254.Reduces [2] S5760x90 := by decide
  have hv : ∀ k : Fin 254, val_main_v19 (F := Ideal) x1 (ix3 (j 0) (j 1) k) = if (2 : ℝ) ^ ((k.val : ℤ) - 126) ≤ t then 1#32 else 0#32 := fun k => by
    rw [val_main_v19_apply, val_main_v18_apply, val_main_v16_apply, val_main_v14_apply, val_main_v17_apply, val_main_v15_apply, pow_at]
    have e : idx_main_v14 (idx_main_v16 (ix3 (j 0) (j 1) k)) = j := by
      funext a
      match a with
      | ⟨0, _⟩ => rfl
      | ⟨1, _⟩ => rfl
    rw [e, ht, cmp_ge]
    rfl
  unfold val_main_v20
  generalize val_main_v19 (F := Ideal) x1 = y at hv
  refine (Host.reduce_eq_fold_single IntOp.addi y _ reducesTo_S5760x90x254_S5760x90_d2 hr h_S_ j).trans ?_
  have e : y ∘ hr.lift j = fun k : Fin 254 => if (2 : ℝ) ^ ((k.val : ℤ) - 126) ≤ t then 1#32 else 0#32 := by
    funext k
    exact (congrArg y (lift_pow hr j k)).trans (hv k)
  rw [e]
  have hs : ∑ k : Fin 254, (if (2 : ℝ) ^ ((k.val : ℤ) - 126) ≤ t then 1#32 else 0#32 : BitVec 32).toNat = count t := by
    unfold count
    rw [Finset.card_filter]
    refine Finset.sum_congr rfl fun k _ => ?_
    split_ifs <;> rfl
  have hc := count_le t
  have hf := StableHlo.Predicate.toNat_fold_addi Finset.univ (fun k : Fin 254 => if (2 : ℝ) ^ ((k.val : ℤ) - 126) ≤ t then 1#32 else 0#32)
    (by rw [hs]; omega)
  rw [hs] at hf
  apply BitVec.eq_of_toNat_eq
  rw [BitVec.toNat_ofNat, Nat.mod_eq_of_lt (by omega)]
  exact hf

theorem expo_word {E : ℕ} (h : E ≤ 254) (h0 : E ≠ 0) : IntOp.subi (IntOp.subi (BitVec.ofNat 32 E) 127#32) 2#32 = expoW E := by
  have : ∀ e : Fin 255, e.val ≠ 0 → IntOp.subi (IntOp.subi (BitVec.ofNat 32 e.val) 127#32) 2#32 = expoW e.val := by decide +kernel
  exact this ⟨E, by omega⟩ h0

theorem expo_sel {u : Fin 32 → ℝ} (hb : Blk u) {t : ℝ} (h1 : ∀ k, |u k| ≤ t) (h2 : ∃ k, t = |u k|) :
    (if t = 0 then 0#32 else IntOp.subi (IntOp.subi (BitVec.ofNat 32 (topE u)) 127#32) 2#32) = expoW (topE u) := by
  have hE := count_amax h1 h2
  by_cases h0 : t = 0
  · rw [if_pos h0]
    have : topE u = 0 := by rw [← hE, h0, count_zero]
    rw [this]
    rfl
  · rw [if_neg h0]
    have hne : topE u ≠ 0 := fun hz => by
      obtain ⟨k, hk⟩ := h2
      exact h0 (by rw [hk, hb.topE_eq_zero hz k, abs_zero])
    exact expo_word (topE_le u) hne

theorem expo_at (h : IsWt x1 Wt) (hB : ∀ o b, Blk (colBlk (Wt o) b)) (j : S5760x90.Idx) :
    val_main_v27 (F := Ideal) x1 j = expoW (topE (colBlk (Wt (j 0)) (j 1))) := by
  obtain ⟨t, ht, h1, h2⟩ := amax_at h j
  have hb := hB (j 0) (j 1)
  rw [val_main_v27_apply, val_main_v26_apply, val_main_v25_apply, val_main_v24_apply, val_main_v23_apply, val_main_v22_apply,
    val_main_v21_apply, val_main_call0_v1_apply, count_at h, ht]
  have e0 : val_main_cst_4 (F := Ideal) (idx_main_v23 j) = ((0 : ℝ) : EReal) := ofBits_f0
  rw [e0, select_eq]
  exact expo_sel hb h1 h2

theorem cand_word {E : ℕ} (h : E ≤ 254) (c : Fin 3) :
    (IntOp.addi (expoW E) (IntOp.subi (BitVec.ofNat 32 c.val) 1#32)).toInt = expo E + ((c.val : ℤ) - 1) := by
  have : ∀ e : Fin 255, ∀ c : Fin 3, (IntOp.addi (expoW e.val) (IntOp.subi (BitVec.ofNat 32 c.val) 1#32)).toInt = expo e.val + ((c.val : ℤ) - 1) := by
    decide +kernel
  exact this ⟨E, by omega⟩ c

/-- The exponent of candidate `c`. -/
theorem cand_at (h : IsWt x1 Wt) (hB : ∀ o b, Blk (colBlk (Wt o) b)) (i : S5760x90x3.Idx) :
    (val_main_v35 (F := Ideal) x1 i).toInt = expo (topE (colBlk (Wt (i 0)) (i 1))) + (((i 2).val : ℤ) - 1) := by
  rw [val_main_v35_apply, val_main_v33_apply, val_main_v28_apply, expo_at h hB, val_main_v34_apply, val_main_v32_apply, val_main_v31_apply,
    val_main_v30_apply, val_main_v29_apply]
  exact cand_word (topE_le _) (i 2)

theorem down_at (h : IsWt x1 Wt) (hB : ∀ o b, Blk (colBlk (Wt o) b)) (i : S5760x90x3.Idx) :
    val_main_v40 (F := Ideal) x1 i = (((2 : ℝ) ^ (-(expo (topE (colBlk (Wt (i 0)) (i 1))) + (((i 2).val : ℤ) - 1))) : ℝ) : EReal) := by
  rw [val_main_v40_apply, val_main_v39_apply, val_main_v38_apply, val_main_v37_apply, ← cand_at h hB i, ← pow_two]
  have e1 : val_main_cst_8 (F := Ideal) (idx_main_v39 i) = ((2 : ℝ) : EReal) := ofBits_f2
  rw [e1]
  congr 1
  show -(((val_main_v35 (F := Ideal) x1 i).toInt : ℝ) : EReal) = _
  rw [← EReal.coe_neg]
  push_cast
  rfl

theorem up_at (h : IsWt x1 Wt) (hB : ∀ o b, Blk (colBlk (Wt o) b)) (i : S5760x90x3.Idx) :
    val_main_v69 (F := Ideal) x1 i = (((2 : ℝ) ^ (expo (topE (colBlk (Wt (i 0)) (i 1))) + (((i 2).val : ℤ) - 1)) : ℝ) : EReal) := by
  rw [val_main_v69_apply, val_main_v68_apply, val_main_v67_apply, ← cand_at h hB i, ← pow_two]
  have e1 : val_main_cst_16 (F := Ideal) (idx_main_v68 i) = ((2 : ℝ) : EReal) := ofBits_f2
  rw [e1]
  rfl

end Cert.Mx

end
-- ==== Proof.RefRead.lean ====
/-
  The reference, second part: its rounding, its errors, its codes and its scales are the ones specified over columns of reals.
-/
module

public import proofs.«01_k».proof.Proof.RefExpo
public import proofs.«01_k».proof.Proof.Errs

@[expose] public section

noncomputable section

namespace Cert.Mx

open Idealize.ShloMosaic Idealize.ShloMosaic.TcCoe Cert.ReferenceIdeal Cert.ReferenceIdeal.Gen Cert.ReferenceIdeal.Read

variable {x0 : (⟨S2x128x2880, .bf16⟩ : BufTy).Contents (Elt Ideal)} {A : Fin 2880 → Fin 256 → ℝ}
variable {x1 : (⟨S5760x2880, .bf16⟩ : BufTy).Contents (Elt Ideal)} {Wt : Fin 5760 → Fin 2880 → ℝ}

/-! ## The rounding -/

/-- The block of an element. -/
abbrev blk4 (Wt : Fin 5760 → Fin 2880 → ℝ) (i : S5760x90x32x3.Idx) : Fin 32 → ℝ := colBlk (Wt (i 0)) (i 1)

/-- The element's value scaled by its candidate's power of two. -/
abbrev sval (Wt : Fin 5760 → Fin 2880 → ℝ) (i : S5760x90x32x3.Idx) : ℝ :=
  blk4 Wt i (i 2) * (2 : ℝ) ^ (-(expo (topE (blk4 Wt i)) + (((i 3).val : ℤ) - 1)))

theorem scaled_at (h : IsWt x1 Wt) (hB : ∀ o b, Blk (colBlk (Wt o) b)) (i : S5760x90x32x3.Idx) :
    val_main_v44 (F := Ideal) x1 i = ((sval Wt i : ℝ) : EReal) := by
  rw [val_main_v44_apply, val_main_v42_apply, val_main_v36_apply, wb_at h, val_main_v43_apply, val_main_v41_apply, down_at h hB]
  exact (EReal.coe_mul _ _).symm

theorem clip_at (h : IsWt x1 Wt) (hB : ∀ o b, Blk (colBlk (Wt o) b)) (i : S5760x90x32x3.Idx) :
    val_main_v47 (F := Ideal) x1 i = ((min |sval Wt i| 6 : ℝ) : EReal) := by
  rw [val_main_v47_apply, val_main_v45_apply, val_main_v46_apply, scaled_at h hB]
  have e : val_main_cst_9 (F := Ideal) (idx_main_v46 i) = ((6 : ℝ) : EReal) := ofBits_f6
  rw [e, ← coe_min, ← abs_coe]
  rfl

theorem round_coe (r : ℝ) : FloatOps.hostUnary (F := Ideal) (φ := .f32) .roundeven (r : EReal) = ((rnd r : ℝ) : EReal) := rfl

theorem mul_coe (a b : ℝ) : FloatOps.mulf (F := Ideal) (φ := .f32) (a : EReal) (b : EReal) = ((a * b : ℝ) : EReal) := (EReal.coe_mul a b).symm

theorem add_coe (a b : ℝ) : FloatOps.addf (F := Ideal) (φ := .f32) (a : EReal) (b : EReal) = ((a + b : ℝ) : EReal) := (EReal.coe_add a b).symm

theorem sub_coe (a b : ℝ) : FloatOps.subf (F := Ideal) (φ := .f32) (a : EReal) (b : EReal) = ((a - b : ℝ) : EReal) := (EReal.coe_sub a b).symm

theorem grid_coe (a : ℝ) : (if a < 2 then ((rnd (2 * a) * (1 / 2) : ℝ) : EReal) else if a < 4 then ((rnd a : ℝ) : EReal) else ((2 * rnd (a * (1 / 2)) : ℝ) : EReal))
    = ((grid a : ℝ) : EReal) := by
  unfold grid
  split_ifs <;> rfl

theorem grid_at (h : IsWt x1 Wt) (hB : ∀ o b, Blk (colBlk (Wt o) b)) (i : S5760x90x32x3.Idx) :
    val_main_v64 (F := Ideal) x1 i = ((grid (min |sval Wt i| 6) : ℝ) : EReal) := by
  have hc := clip_at h hB i
  have c10 : val_main_v48 (F := Ideal) i = ((2 : ℝ) : EReal) := (val_main_v48_apply i).trans ofBits_f2
  have c11 : val_main_v50 (F := Ideal) i = ((2 : ℝ) : EReal) := (val_main_v50_apply i).trans ofBits_f2
  have c12 : val_main_v53 (F := Ideal) i = ((1 / 2 : ℝ) : EReal) := (val_main_v53_apply i).trans ofBits_half
  have c13 : val_main_v55 (F := Ideal) i = ((4 : ℝ) : EReal) := (val_main_v55_apply i).trans ofBits_f4
  have c14 : val_main_v58 (F := Ideal) i = ((1 / 2 : ℝ) : EReal) := (val_main_v58_apply i).trans ofBits_half
  have c15 : val_main_v61 (F := Ideal) i = ((2 : ℝ) : EReal) := (val_main_v61_apply i).trans ofBits_f2
  rw [val_main_v64_apply, val_main_v63_apply, val_main_v49_apply, val_main_v54_apply, val_main_v52_apply, val_main_v51_apply, val_main_v56_apply,
    val_main_v57_apply, val_main_v62_apply, val_main_v60_apply, val_main_v59_apply, hc, c10, c11, c12, c13, c14, c15,
    select_lt, select_lt, mul_coe, round_coe, mul_coe, round_coe, mul_coe, round_coe, mul_coe]
  exact grid_coe _

theorem quant_at (h : IsWt x1 Wt) (hB : ∀ o b, Blk (colBlk (Wt o) b)) (i : S5760x90x32x3.Idx) :
    val_main_v66 (F := Ideal) x1 i = ((quant (sval Wt i) : ℝ) : EReal) := by
  rw [val_main_v66_apply, val_main_v65_apply, grid_at h hB, scaled_at h hB]
  exact (EReal.coe_mul _ _).symm

/-- The rounding's remainder. -/
theorem rest_at (h : IsWt x1 Wt) (hB : ∀ o b, Blk (colBlk (Wt o) b)) (i : S5760x90x32x3.Idx) :
    val_main_v75 (F := Ideal) x1 i = ((dq (blk4 Wt i) (((i 3).val : ℤ) - 1) (i 2) : ℝ) : EReal) := by
  rw [val_main_v75_apply, val_main_v74_apply, val_main_v73_apply, wb_at h, val_main_v72_apply, quant_at h hB, val_main_v71_apply, val_main_v70_apply,
    up_at h hB, mul_coe]
  exact sub_coe _ _

/-! ## The errors -/

/-- The activations are these reals. -/
def IsAt (x0 : (⟨S2x128x2880, .bf16⟩ : BufTy).Contents (Elt Ideal)) (A : Fin 2880 → Fin 256 → ℝ) : Prop :=
  ∀ (p : Fin 2) (q : Fin 128) (n : Fin 2880), x0 (ix3 p q n) = ((A n ⟨128 * p.val + q.val, by omega⟩ : ℝ) : EReal)

theorem act_at (h : IsAt x0 A) (i : S256x90x32.Idx) :
    val_main_v0 (F := Ideal) x0 i = ((A ⟨32 * (i 1).val + (i 2).val, by have h1 : (i 1).val < 90 := (i 1).isLt; have h2 : (i 2).val < 32 := (i 2).isLt; omega⟩ (i 0) : ℝ) : EReal) := by
  have h0 : (i 0).val < 256 := (i 0).isLt
  have h1 : (i 1).val < 90 := (i 1).isLt
  have h2 : (i 2).val < 32 := (i 2).isLt
  rw [val_main_v0_apply]
  have e : idx_main_v0 i = ix3 ⟨(i 0).val / 128, by omega⟩ ⟨(i 0).val % 128, by omega⟩ ⟨32 * (i 1).val + (i 2).val, by omega⟩ := by
    funext a
    match a with
    | ⟨0, _⟩ => exact Fin.ext (by show (((i 0).val * 90 + (i 1).val) * 32 + (i 2).val) / 368640 = (i 0).val / 128; omega)
    | ⟨1, _⟩ => exact Fin.ext (by show (((i 0).val * 90 + (i 1).val) * 32 + (i 2).val) / 2880 % 128 = (i 0).val % 128; omega)
    | ⟨2, _⟩ => exact Fin.ext (by show (((i 0).val * 90 + (i 1).val) * 32 + (i 2).val) % 2880 = 32 * (i 1).val + (i 2).val; omega)
  rw [e, h]
  congr 2
  exact Fin.ext (by show 128 * ((i 0).val / 128) + (i 0).val % 128 = (i 0).val; omega)

theorem hess_at (h : IsAt x0 A) (i : S90x32x32.Idx) : val_main_v3 (F := Ideal) x0 i = ((hess A (i 0) (i 1) (i 2) : ℝ) : EReal) := by
  rw [val_main_v3_apply, val_main_v1_apply, val_main_v2_apply]
  have e : val_main_cst (F := Ideal) (idx_main_v2 i) = ((1 / 256 : ℝ) : EReal) := ofBits_T
  have hs : (∑ k, val_main_v0 (F := Ideal) x0 (lidx_main_v1 i k) * val_main_v0 (F := Ideal) x0 (ridx_main_v1 i k) : EReal)
      = ((∑ k : Fin 256, A ⟨32 * (i 0).val + (i 1).val, by have h1 : (i 0).val < 90 := (i 0).isLt; have h2 : (i 1).val < 32 := (i 1).isLt; omega⟩ k
          * A ⟨32 * (i 0).val + (i 2).val, by have h1 : (i 0).val < 90 := (i 0).isLt; have h2 : (i 2).val < 32 := (i 2).isLt; omega⟩ k : ℝ) : EReal) := by
    refine Eq.trans ?_ (coe_sum _ _)
    refine Finset.sum_congr rfl fun k _ => ?_
    rw [act_at h, act_at h, ← EReal.coe_mul]
    rfl
  rw [hs, e]
  exact mul_coe _ _

theorem hess_symm (A : Fin 2880 → Fin 256 → ℝ) (b : Fin 90) (i j : Fin 32) : hess A b i j = hess A b j i := by
  unfold hess
  congr 1
  exact Finset.sum_congr rfl fun k _ => mul_comm _ _

theorem ref_err (h0 : IsAt x0 A) (h : IsWt x1 Wt) (hB : ∀ o b, Blk (colBlk (Wt o) b)) :
    val_main_v116 (F := Ideal) x0 x1 = fun y => errC A (Wt (y 2)) (y 0) (y 1) := by
  funext y
  rw [val_main_v116_apply, val_main_v78_apply]
  unfold errC
  rw [← errR_comm (hess A (y 1)) (hess_symm A (y 1))]
  refine Eq.trans ?_ (coe_sum _ _)
  refine Finset.sum_congr rfl fun j _ => ?_
  rw [val_main_v77_apply, val_main_v76_apply, rest_at h hB]
  refine Eq.trans ?_ (EReal.coe_mul _ _).symm
  refine congrArg₂ (· * ·) (Eq.trans ?_ (coe_sum _ _)) rfl
  refine Finset.sum_congr rfl fun i _ => ?_
  rw [hess_at h0, rest_at h hB, mul_comm, ← EReal.coe_mul]
  rfl

/-! ## The scales -/

theorem ref_scale (h : IsWt x1 Wt) (hB : ∀ o b, Blk (colBlk (Wt o) b)) :
    val_main_v118 (F := Ideal) x1 = fun y => scaleC (Wt (y 1)) (y 0) := by
  funext y
  rw [val_main_v118_apply, val_main_v115_apply, val_main_v114_apply, expo_at h hB, val_main_v113_apply]
  rfl

/-! ## The codes -/

theorem idx82 (i : S5760x90x32.Idx) : idx_main_v80 i = ix4 (i 0) (i 1) (i 2) 0 := by
  have h0 : (i 0).val < 5760 := (i 0).isLt
  have h1 : (i 1).val < 90 := (i 1).isLt
  have h2 : (i 2).val < 32 := (i 2).isLt
  funext a
  match a with
  | ⟨0, _⟩ => exact Fin.ext (by show (((i 0).val * 90 + (i 1).val) * 32 + (i 2).val) / 2880 = (i 0).val; omega)
  | ⟨1, _⟩ => exact Fin.ext (by show (((i 0).val * 90 + (i 1).val) * 32 + (i 2).val) / 32 % 90 = (i 1).val; omega)
  | ⟨2, _⟩ => exact Fin.ext (by show (((i 0).val * 90 + (i 1).val) * 32 + (i 2).val) / 1 % 32 = (i 2).val; omega)
  | ⟨3, _⟩ => rfl

/-- The element at the middle candidate. -/
def mid (i : S5760x90x32.Idx) : S5760x90x32x3.Idx := ix4 (i 0) (i 1) (i 2) 1

theorem mid_idx (i : S5760x90x32.Idx) : idx_main_v79 (idx_main_v80 i) = mid i := by
  rw [idx82]
  funext a
  match a with
  | ⟨0, _⟩ => rfl
  | ⟨1, _⟩ => rfl
  | ⟨2, _⟩ => rfl
  | ⟨3, _⟩ => rfl

theorem mid_idx' (i : S5760x90x32.Idx) : idx_main_v81 (idx_main_v82 i) = mid i := mid_idx i

theorem sval_mid (i : S5760x90x32.Idx) : sval Wt (mid i) = scl (colBlk (Wt (i 0)) (i 1)) (i 2) := by
  show colBlk (Wt (i 0)) (i 1) (i 2) * (2 : ℝ) ^ (-(expo (topE (colBlk (Wt (i 0)) (i 1))) + (((1 : ℕ) : ℤ) - 1))) = _
  unfold scl
  norm_num

theorem mid_grid (h : IsWt x1 Wt) (hB : ∀ o b, Blk (colBlk (Wt o) b)) (i : S5760x90x32.Idx) :
    val_main_v80 (F := Ideal) x1 i = ((grid (min |scl (colBlk (Wt (i 0)) (i 1)) (i 2)| 6) : ℝ) : EReal) := by
  rw [val_main_v80_apply, val_main_v79_apply, mid_idx, grid_at h hB, sval_mid]

theorem mid_scl (h : IsWt x1 Wt) (hB : ∀ o b, Blk (colBlk (Wt o) b)) (i : S5760x90x32.Idx) :
    val_main_v82 (F := Ideal) x1 i = ((scl (colBlk (Wt (i 0)) (i 1)) (i 2) : ℝ) : EReal) := by
  rw [val_main_v82_apply, val_main_v81_apply, mid_idx', scaled_at h hB, sval_mid]

theorem mag_coe (q : ℝ) : (if q < 2 then ((2 * q : ℝ) : EReal) else if q < 4 then ((q + 2 : ℝ) : EReal) else ((q * (1 / 2) + 4 : ℝ) : EReal))
    = ((mag q : ℝ) : EReal) := by
  unfold mag
  split_ifs <;> rfl

theorem mag_at (h : IsWt x1 Wt) (hB : ∀ o b, Blk (colBlk (Wt o) b)) (i : S5760x90x32.Idx) :
    val_main_v96 (F := Ideal) x1 i = ((mag (grid (min |scl (colBlk (Wt (i 0)) (i 1)) (i 2)| 6)) : ℝ) : EReal) := by
  have hc := mid_grid h hB i
  have c17 : val_main_v83 (F := Ideal) i = ((2 : ℝ) : EReal) := (val_main_v83_apply i).trans ofBits_f2
  have c18 : val_main_v85 (F := Ideal) i = ((2 : ℝ) : EReal) := (val_main_v85_apply i).trans ofBits_f2
  have c19 : val_main_v87 (F := Ideal) i = ((4 : ℝ) : EReal) := (val_main_v87_apply i).trans ofBits_f4
  have c20 : val_main_v89 (F := Ideal) i = ((2 : ℝ) : EReal) := (val_main_v89_apply i).trans ofBits_f2
  have c21 : val_main_v91 (F := Ideal) i = ((1 / 2 : ℝ) : EReal) := (val_main_v91_apply i).trans ofBits_half
  have c22 : val_main_v93 (F := Ideal) i = ((4 : ℝ) : EReal) := (val_main_v93_apply i).trans ofBits_f4
  rw [val_main_v96_apply, val_main_v95_apply, val_main_v84_apply, val_main_v86_apply, val_main_v88_apply, val_main_v90_apply, val_main_v94_apply,
    val_main_v92_apply, hc, c17, c18, c19, c20, c21, c22, select_lt, select_lt, mul_coe, add_coe, mul_coe, add_coe]
  exact mag_coe _

theorem sign_bits (a b : ℝ) : Scalar.select (IntOp.andi (FloatOps.cmpf (F := Ideal) (φ := .f32) .olt (a : EReal) ((0 : ℝ) : EReal))
    (FloatOps.cmpf (F := Ideal) (φ := .f32) .une (b : EReal) ((0 : ℝ) : EReal))) 8#32 0#32 = if a < 0 ∧ b ≠ 0 then 8#32 else 0#32 := by
  show (if Ideal.cmp .olt (a : EReal) ((0 : ℝ) : EReal) &&& Ideal.cmp .une (b : EReal) ((0 : ℝ) : EReal) = 1#1 then 8#32 else 0#32) = _
  have e1 : Ideal.cmp .olt (a : EReal) ((0 : ℝ) : EReal) = BitVec.ofBool (decide (a < 0)) := by
    show BitVec.ofBool (decide ((a : EReal) < ((0 : ℝ) : EReal))) = _
    simp only [EReal.coe_lt_coe_iff]
  have e2 : Ideal.cmp .une (b : EReal) ((0 : ℝ) : EReal) = BitVec.ofBool (decide (b ≠ 0)) := by
    show BitVec.ofBool (decide ((b : EReal) ≠ ((0 : ℝ) : EReal))) = _
    simp only [ne_eq, EReal.coe_eq_coe_iff]
  rw [e1, e2]
  by_cases ha : a < 0 <;> by_cases hb : b = 0 <;> simp [ha, hb]

theorem nib_ref (h : IsWt x1 Wt) (hB : ∀ o b, Blk (colBlk (Wt o) b)) (i : S5760x90x32.Idx) :
    val_main_v105 (F := Ideal) x1 i = nibW (scl (colBlk (Wt (i 0)) (i 1)) (i 2)) := by
  have c23 : val_main_v98 (F := Ideal) i = ((0 : ℝ) : EReal) := (val_main_v98_apply i).trans ofBits_f0
  have c24 : val_main_v100 (F := Ideal) i = ((0 : ℝ) : EReal) := (val_main_v100_apply i).trans ofBits_f0
  have c80 : val_main_call8_v0 (F := Ideal) i = 8#32 := val_main_call8_v0_apply i
  have c81 : val_main_call8_v1 (F := Ideal) i = 0#32 := val_main_call8_v1_apply i
  rw [val_main_v105_apply, val_main_v104_apply, val_main_v103_apply, val_main_v102_apply, val_main_v99_apply, val_main_v101_apply, val_main_v97_apply,
    mag_at h hB, mid_scl h hB, mid_grid h hB, c23, c24, c80, c81, sign_bits]
  unfold nibW
  exact BitVec.or_comm _ _

theorem nibs_at (h : IsWt x1 Wt) (hB : ∀ o b, Blk (colBlk (Wt o) b)) (o : Fin 5760) (r : Fin 2880) :
    val_main_v106 (F := Ideal) x1 (ix2 o r) = nibC (Wt o) r := by
  rw [val_main_v106_apply, nib_ref h hB]
  have e : idx_main_v106 (ix2 o r) = ix3 o ⟨r.val / 32, by omega⟩ ⟨r.val % 32, by omega⟩ := by
    funext a
    match a with
    | ⟨0, _⟩ => exact Fin.ext (by show (o.val * 2880 + r.val) / 2880 = o.val; omega)
    | ⟨1, _⟩ => exact Fin.ext (by show (o.val * 2880 + r.val) / 32 % 90 = r.val / 32; omega)
    | ⟨2, _⟩ => exact Fin.ext (by show (o.val * 2880 + r.val) % 32 = r.val % 32; omega)
  rw [e]
  rfl

theorem even_at (i : S5760x1440.Idx) : val_main_v107 (F := Ideal) x1 i
    = val_main_v106 (F := Ideal) x1 (ix2 (i 0) ⟨(i 1).val * 2, by have h1 : (i 1).val < 1440 := (i 1).isLt; omega⟩) := by
  unfold val_main_v107
  generalize val_main_v106 (F := Ideal) x1 = y
  refine (Host.slice_apply _ _ y slicesBy_S5760x2880_S5760x1440_0s1_0s2 i).trans (congrArg y ?_)
  funext a
  match a with
  | ⟨0, _⟩ => exact Fin.ext (by show 0 + 1 * (i 0).val = (i 0).val; omega)
  | ⟨1, _⟩ => exact Fin.ext (by show 0 + 2 * (i 1).val = (i 1).val * 2; omega)

theorem odd_at (i : S5760x1440.Idx) : val_main_v108 (F := Ideal) x1 i
    = val_main_v106 (F := Ideal) x1 (ix2 (i 0) ⟨(i 1).val * 2 + 1, by have h1 : (i 1).val < 1440 := (i 1).isLt; omega⟩) := by
  unfold val_main_v108
  generalize val_main_v106 (F := Ideal) x1 = y
  refine (Host.slice_apply _ _ y slicesBy_S5760x2880_S5760x1440_0s1_1s2 i).trans (congrArg y ?_)
  funext a
  match a with
  | ⟨0, _⟩ => exact Fin.ext (by show 0 + 1 * (i 0).val = (i 0).val; omega)
  | ⟨1, _⟩ => exact Fin.ext (by show 1 + 2 * (i 1).val = (i 1).val * 2 + 1; omega)

theorem ref_code (h : IsWt x1 Wt) (hB : ∀ o b, Blk (colBlk (Wt o) b)) :
    val_main_v117 (F := Ideal) x1 = fun y => codeC (Wt (y 1)) (y 0) := by
  funext y
  have c27 : ∀ i, val_main_v109 (F := Ideal) i = 4#32 := fun i => val_main_v109_apply i
  rw [val_main_v117_apply, val_main_v112_apply, val_main_v111_apply, val_main_v110_apply, even_at, odd_at, c27]
  refine (congrArg (BitVec.setWidth 8) (congrArg₂ IntOp.ori (nibs_at h hB _ _) (congrArg (IntOp.shli .host · 4#32) (nibs_at h hB _ _)))).trans ?_
  rfl

end Cert.Mx

end
-- ==== Proof.Given.lean ====
/-
  What the stated condition says of the two arguments: the samples and the weights are real numbers, and a block of weights is zero or reaches 2^-124.
-/
module

public import proofs.«01_k».proof.Proof.RefRead
public import proofs.«01_k».proof.Proof.Gen.Pre_finite_blocks

@[expose] public section

noncomputable section

namespace Cert.Mx

open Idealize.ShloMosaic Idealize.ShloMosaic.TcCoe Cert.ReferenceIdeal Cert.ReferenceIdeal.Gen Cert.ReferenceIdeal.Read

/-! ## Scalars -/

theorem ofBool_one {b : Bool} (h : BitVec.ofBool b = 1#1) : b = true := by cases b <;> first | rfl | exact absurd h (by decide)

theorem or_one : ∀ a b : BitVec 1, IntOp.ori a b = 1#1 → a = 1#1 ∨ b = 1#1 := by decide

/-- A number whose magnitude is below +∞ is a real number. -/
theorem real_of_abs_lt {x : EReal} (h : max x (-x) < ⊤) : x = ((x.toReal : ℝ) : EReal) := by
  have h1 : x ≠ ⊤ := fun e => by simp [e] at h
  have h2 : x ≠ ⊥ := fun e => by simp [e] at h
  exact (EReal.coe_toReal h1 h2).symm

theorem ofBits_top : Ideal.ofBits .f32 0x7F800000#32 = (⊤ : EReal) := by simp [Ideal.ofBits, Ideal.ieee]

theorem ofBits_bmax : Ideal.ofBits .f32 0x7F7F0000#32 = (((2 ^ 23 + 8323072) * (2 : ℝ) ^ (104 : ℤ) : ℝ) : EReal) :=
  f32_norm false 254 8323072 (by decide) (by decide) (by decide) (by decide) (by decide) (by norm_num)

theorem ofBits_least : Ideal.ofBits .f32 0x01800000#32 = (((2 : ℝ) ^ (-124 : ℤ) : ℝ) : EReal) :=
  f32_norm false 3 0 (by decide) (by decide) (by decide) (by decide) (by decide) (by norm_num)

/-! ## The arguments -/

/-- The samples an array of extended reals holds. -/
def samples (x0 : (⟨S2x128x2880, .bf16⟩ : BufTy).Contents (Elt Ideal)) (n : Fin 2880) (k : Fin 256) : ℝ :=
  EReal.toReal (x0 (ix3 ⟨k.val / 128, by omega⟩ ⟨k.val % 128, by omega⟩ n))

/-- The weights an array of extended reals holds. -/
def weights (x1 : (⟨S5760x2880, .bf16⟩ : BufTy).Contents (Elt Ideal)) (o : Fin 5760) (n : Fin 2880) : ℝ :=
  EReal.toReal (x1 (ix2 o n))

variable {x0 : (⟨S2x128x2880, .bf16⟩ : BufTy).Contents (Elt Ideal)} {x1 : (⟨S5760x2880, .bf16⟩ : BufTy).Contents (Elt Ideal)}

theorem isAt_given (h : (Cert.Pre_finite_blocks.fn (F := Ideal) x0 x1).1 = fun _ => 1#1) : IsAt x0 (samples x0) := by
  intro p q n
  have e : ix3 (⟨(128 * p.val + q.val) / 128, by omega⟩ : Fin 2) (⟨(128 * p.val + q.val) % 128, by omega⟩ : Fin 128) n = ix3 p q n := by
    congr 1
    · exact Fin.ext (by show (128 * p.val + q.val) / 128 = p.val; omega)
    · exact Fin.ext (by show (128 * p.val + q.val) % 128 = q.val; omega)
  have hi : BitVec.ofBool (decide (max (x0 (ix3 p q n) : EReal) (-(x0 (ix3 p q n))) < Ideal.ofBits .f32 0x7F800000#32)) = 1#1 := congrFun h (ix3 p q n)
  have hr := real_of_abs_lt (ofBits_top ▸ of_decide_eq_true (ofBool_one hi))
  refine hr.trans (congrArg (fun i => ((EReal.toReal (x0 i) : ℝ) : EReal)) e.symm)

theorem weight_given (h : (Cert.Pre_finite_blocks.fn (F := Ideal) x0 x1).2.1 = fun _ => 1#1) (o : Fin 5760) (n : Fin 2880) :
    x1 (ix2 o n) = ((weights x1 o n : ℝ) : EReal) ∧ |weights x1 o n| < 2 ^ (128 : ℤ) := by
  have hi : BitVec.ofBool (decide (max (x1 (ix2 o n) : EReal) (-(x1 (ix2 o n))) ≤ Ideal.ofBits .f32 0x7F7F0000#32)) = 1#1 := congrFun h (ix2 o n)
  have hl := of_decide_eq_true (ofBool_one hi)
  rw [ofBits_bmax] at hl
  have hr := real_of_abs_lt (lt_of_le_of_lt hl (EReal.coe_lt_top _))
  refine ⟨hr, ?_⟩
  have ha : ((|weights x1 o n| : ℝ) : EReal) ≤ (((2 ^ 23 + 8323072) * (2 : ℝ) ^ (104 : ℤ) : ℝ) : EReal) := by
    refine le_trans (le_of_eq ?_) hl
    rw [hr]
    exact (abs_coe _).symm
  refine lt_of_le_of_lt (EReal.coe_le_coe_iff.mp ha) ?_
  norm_num

theorem isWt_given (h : (Cert.Pre_finite_blocks.fn (F := Ideal) x0 x1).2.1 = fun _ => 1#1) : IsWt x1 (weights x1) :=
  fun o n => (weight_given h o n).1

/-- The condition's largest magnitudes are the reference's: the magnitudes of the regrouped weights are the regrouped magnitudes. -/
theorem amax_given : Host.reduce FloatOps.maximumf
      (shapeCast Cert.Pre_finite_blocks.S5760x90x32 (Host.absf (extf (F := Ideal) .f32 x1 Cert.Pre_finite_blocks.Facts.bitsLt_bf16_f32)) Cert.Pre_finite_blocks.Facts.shapeCasts_S5760x2880_S5760x90x32)
      (constant (F := Ideal) Cert.Pre_finite_blocks.S_ .f32 0xFF800000#32) Cert.Pre_finite_blocks.Facts.reducesTo_S5760x90x32_S5760x90_d2 Cert.Pre_finite_blocks.Facts.h_S_
      = val_main_v7 (F := Ideal) x1 := by
  have e : shapeCast Cert.Pre_finite_blocks.S5760x90x32 (Host.absf (extf (F := Ideal) .f32 x1 Cert.Pre_finite_blocks.Facts.bitsLt_bf16_f32)) Cert.Pre_finite_blocks.Facts.shapeCasts_S5760x2880_S5760x90x32
      = val_main_v6 (F := Ideal) x1 := rfl
  rw [e]
  rfl

/-- The condition on one block, of the largest magnitudes. -/
theorem cond_at (y : FVec Ideal Cert.Pre_finite_blocks.S5760x90 .f32) (j : Cert.Pre_finite_blocks.S5760x90.Idx) :
    ori (cmpf .oeq y (broadcastInDim Cert.Pre_finite_blocks.S5760x90 ![] Cert.Pre_finite_blocks.Facts.bcast_S_S5760x90 (constant (F := Ideal) Cert.Pre_finite_blocks.S_ .f32 0x00000000#32)))
      (cmpf .oge y (broadcastInDim Cert.Pre_finite_blocks.S5760x90 ![] Cert.Pre_finite_blocks.Facts.bcast_S_S5760x90 (constant (F := Ideal) Cert.Pre_finite_blocks.S_ .f32 0x01800000#32))) j
      = IntOp.ori (Ideal.cmp .oeq (y j) (Ideal.ofBits .f32 0x00000000#32)) (Ideal.cmp .oge (y j) (Ideal.ofBits .f32 0x01800000#32)) := rfl

theorem of_cmp_eq {a b : EReal} (h : Ideal.cmp .oeq a b = 1#1) : a = b := by
  by_contra hn
  simp [Ideal.cmp, hn] at h

theorem of_cmp_ge {a b : EReal} (h : Ideal.cmp .oge a b = 1#1) : b ≤ a := by
  by_contra hn
  simp [Ideal.cmp, hn] at h

theorem blk_given (h1 : (Cert.Pre_finite_blocks.fn (F := Ideal) x0 x1).2.1 = fun _ => 1#1)
    (h2 : (Cert.Pre_finite_blocks.fn (F := Ideal) x0 x1).2.2 = fun _ => 1#1) (o : Fin 5760) (b : Fin 90) : Blk (colBlk (weights x1 o) b) := by
  obtain ⟨t, ht, ht1, k, ht2⟩ := amax_at (isWt_given h1) (ix2 o b)
  refine ⟨fun i => (weight_given h1 o _).2, ?_⟩
  unfold Cert.Pre_finite_blocks.fn at h2
  dsimp only at h2
  rw [amax_given] at h2
  have e := (cond_at (val_main_v7 (F := Ideal) x1) (ix2 o b)).symm.trans (congrFun h2 (ix2 o b))
  rw [ht, ofBits_f0, ofBits_least] at e
  rcases or_one _ _ e with e1 | e1
  · left
    intro i
    have t0 : t = 0 := EReal.coe_eq_coe_iff.mp (of_cmp_eq e1)
    exact abs_eq_zero.mp (le_antisymm (t0 ▸ ht1 i) (abs_nonneg _))
  · right
    exact ⟨k, ht2 ▸ EReal.coe_le_coe_iff.mp (of_cmp_ge e1)⟩

end Cert.Mx

end
-- ==== Proof.KernelIdeal.Reach.lean ====
/-
  What the two loops leave: from the samples' block, a block of weights and (after the first point) the filled scratch, one run of the
  kernel leaves the errors, the codes and the scales of the block's columns on the lanes that hold weights, and the scratch filled.
-/
module

public import proofs.«01_k».proof.Proof.KernelIdeal.Frame
public import proofs.«01_k».proof.Proof.Trip

@[expose] public section

noncomputable section

namespace Cert.KernelIdeal.Value

open Cert.KernelIdeal Cert.KernelIdeal.Gen Cert.Mx
open Cert.KernelIdeal.Hand (scM PhiA0_eq defs₀_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

local notation "𝕄" => MT nD τ sig Unit (Elt Ideal) ℕ (UR sig nD τ) ℕ

theorem t3_zero : ∀ i : grid0.Coords, Scf.trips (k0_t3_loop i).lb (k0_t3_loop i).ub (k0_t3_loop i).st = 0 := by decide +kernel

theorem t2_le (i : grid0.Coords) : Scf.trips (k0_t2_loop i).lb (k0_t2_loop i).ub (k0_t2_loop i).st ≤ (k0_t2_loop i).trips := le_of_eq rfl

/-- Grid point `i`'s lanes that hold weights. -/
def lanes (i : grid0.Coords) (l : Fin 1280) : Prop := 1280 * (i 0).val + l.val < 5760

theorem t2_reach : ∀ i : grid0.Coords, 5760 ≤ 1280 * (i 0).val + 256 * Scf.trips (k0_t2_loop i).lb (k0_t2_loop i).ub (k0_t2_loop i).st
    ∨ 1280 ≤ 256 * Scf.trips (k0_t2_loop i).lb (k0_t2_loop i).ub (k0_t2_loop i).st := by decide +kernel

theorem lanes_lt (i : grid0.Coords) (l : Fin 1280) (h : lanes i l) :
    l.val < 256 * Scf.trips (k0_t2_loop i).lb (k0_t2_loop i).ub (k0_t2_loop i).st := by
  unfold lanes at h
  have := t2_reach i
  omega

set_option maxHeartbeats 400000 in
/-- The three results' staging blocks, read after the two loops. -/
theorem after_loops (𝒱 : Variants) (c : Dev nD) (bd : Option 𝒱.V) (i : grid0.Coords)
    (arg1 : Memref sig .tc .vmem S2x2880x128 .bf16) (harg1 : arg1.IsWhole) (arg2 : Memref sig .tc .vmem S2880x1280 .bf16) (harg2 : arg2.IsWhole)
    (arg3 : Memref sig .tc .vmem S3x90x1280 .f32) (harg3 : arg3.IsWhole) (arg4 : Memref sig .tc .vmem S1440x1280 .i8) (harg4 : arg4.IsWhole)
    (arg5 : Memref sig .tc .vmem S90x1280 .i8) (harg5 : arg5.IsWhole) (arg6 : Memref sig .tc .vmem S30x128x256 .bf16) (harg6 : arg6.IsWhole)
    (v29 init : BitVec 32) (X2 : BufTy.Contents (Elt Ideal) arg2.view.ty) (X6 : BufTy.Contents (Elt Ideal) arg6.view.ty)
    {Wb : Fin 1280 → Fin 2880 → ℝ} {A : Fin 2880 → Fin 256 → ℝ}
    (hW : IsW (lanes i) (arg2.view.read (Elt Ideal) X2) Wb) (hH : ∀ y, arg6.view.read (Elt Ideal) X6 y = scratch A y)
    (f3 : BufTy.Contents (Elt Ideal) arg3.view.ty) (f4 : BufTy.Contents (Elt Ideal) arg4.view.ty) (f5 : BufTy.Contents (Elt Ideal) arg5.view.ty) (a3 : BitVec 32) :
    (∀ y, lanes i (y 2) → arg3.view.read (Elt Ideal) (arg3.view.writes (Elt Ideal) f3
        ((st_k0_t3 (F := Ideal) 𝒱 c bd i arg1 harg1 arg2 harg2 arg3 harg3 arg4 harg4 arg5 harg5 arg6 harg6 v29 X2 X6 a3
            (Scf.trips (k0_t3_loop i).lb (k0_t3_loop i).ub (k0_t3_loop i).st)).2.1
          ++ (st_k0_t2 (F := Ideal) 𝒱 c bd i arg1 harg1 arg2 harg2 arg3 harg3 arg4 harg4 arg5 harg5 arg6 harg6 X2 X6 init
            (Scf.trips (k0_t2_loop i).lb (k0_t2_loop i).ub (k0_t2_loop i).st)).2.1)) y = gErr A Wb y)
    ∧ (∀ y, lanes i (y 1) → arg4.view.read (Elt Ideal) (arg4.view.writes (Elt Ideal) f4
        ((st_k0_t3 (F := Ideal) 𝒱 c bd i arg1 harg1 arg2 harg2 arg3 harg3 arg4 harg4 arg5 harg5 arg6 harg6 v29 X2 X6 a3
            (Scf.trips (k0_t3_loop i).lb (k0_t3_loop i).ub (k0_t3_loop i).st)).2.2.1
          ++ (st_k0_t2 (F := Ideal) 𝒱 c bd i arg1 harg1 arg2 harg2 arg3 harg3 arg4 harg4 arg5 harg5 arg6 harg6 X2 X6 init
            (Scf.trips (k0_t2_loop i).lb (k0_t2_loop i).ub (k0_t2_loop i).st)).2.2.1)) y = gCode Wb y)
    ∧ (∀ y, lanes i (y 1) → arg5.view.read (Elt Ideal) (arg5.view.writes (Elt Ideal) f5
        ((st_k0_t3 (F := Ideal) 𝒱 c bd i arg1 harg1 arg2 harg2 arg3 harg3 arg4 harg4 arg5 harg5 arg6 harg6 v29 X2 X6 a3
            (Scf.trips (k0_t3_loop i).lb (k0_t3_loop i).ub (k0_t3_loop i).st)).2.2.2
          ++ (st_k0_t2 (F := Ideal) 𝒱 c bd i arg1 harg1 arg2 harg2 arg3 harg3 arg4 harg4 arg5 harg5 arg6 harg6 X2 X6 init
            (Scf.trips (k0_t2_loop i).lb (k0_t2_loop i).ub (k0_t2_loop i).st)).2.2.2)) y = gScale Wb y) := by
  have e3 : st_k0_t3 (F := Ideal) 𝒱 c bd i arg1 harg1 arg2 harg2 arg3 harg3 arg4 harg4 arg5 harg5 arg6 harg6 v29 X2 X6 a3 0 = (a3, [], [], []) := rfl
  rw [t3_zero i, e3]
  obtain ⟨p1, c1⟩ := loop_err 𝒱 c bd i arg1 harg1 arg2 harg2 arg3 harg3 arg4 harg4 arg5 harg5 arg6 harg6 X2 X6 init hW hH _ (t2_le i)
  obtain ⟨p2, c2⟩ := loop_code 𝒱 c bd i arg1 harg1 arg2 harg2 arg3 harg3 arg4 harg4 arg5 harg5 arg6 harg6 X2 X6 init hW _ (t2_le i)
  obtain ⟨p3, c3⟩ := loop_scale 𝒱 c bd i arg1 harg1 arg2 harg2 arg3 harg3 arg4 harg4 arg5 harg5 arg6 harg6 X2 X6 init hW _ (t2_le i)
  unfold st2 at p1 c1 p2 c2 p3 c3
  dsimp only
  simp only [List.nil_append]
  generalize st_k0_t2 (F := Ideal) 𝒱 c bd i arg1 harg1 arg2 harg2 arg3 harg3 arg4 harg4 arg5 harg5 arg6 harg6 X2 X6 init
    (Scf.trips (k0_t2_loop i).lb (k0_t2_loop i).ub (k0_t2_loop i).st) = s at p1 c1 p2 c2 p3 c3 ⊢
  refine ⟨fun y hy => ?_, fun y hy => ?_, fun y hy => ?_⟩
  · exact read_of_pieces arg3.view f3 (fun y => lanes i (y 2)) (gErr A Wb) _ p1 y hy (c1 y (lanes_lt i _ hy))
  · exact read_of_pieces arg4.view f4 (fun y => lanes i (y 1)) (gCode Wb) _ p2 y hy (c2 y (lanes_lt i _ hy))
  · exact read_of_pieces arg5.view f5 (fun y => lanes i (y 1)) (gScale Wb) _ p3 y hy (c3 y (lanes_lt i _ hy))

/-- `term_at`, for a column's lane block held in a name. -/
theorem term_at' (v : IVec S96x256 32) (hv : v = k0_pay20 k0_pay18 k0_pay19) (j : S96x256.Idx) :
    k0_pay1 v (cmpi .slt v (broadcast S96x256 6#32)) 3#32 (remsi v (broadcast S96x256 3#32)) (cmpi .ne (remsi v (broadcast S96x256 3#32)) (broadcast S96x256 0#32))
        (cmpi .slt (remsi v (broadcast S96x256 3#32)) (broadcast S96x256 0#32)) (broadcast S96x256 0#1) j
      = BitVec.ofNat 32 (if (j 1).val / 32 < 6 then (j 1).val / 32 % 3 else (j 1).val / 32 - 6) := by
  have h1 := (j 1).isLt
  change (j 1).val < 256 at h1
  have h : v j = BitVec.ofNat 32 (⟨(j 1).val / 32, by omega⟩ : Fin 8).val := by rw [hv]; exact col_at j
  change _ = BitVec.ofNat 32 (if (⟨(j 1).val / 32, by omega⟩ : Fin 8).val < 6 then (⟨(j 1).val / 32, by omega⟩ : Fin 8).val % 3 else (⟨(j 1).val / 32, by omega⟩ : Fin 8).val - 6)
  generalize (⟨(j 1).val / 32, by omega⟩ : Fin 8) = s at h ⊢
  pointwise [k0_pay1]
  rw [h]
  clear h h1 hv
  revert s
  decide +kernel

end Cert.KernelIdeal.Value

end
-- ==== Proof.KernelIdeal.Body.lean ====
/-
  The body on the values: from the samples' block, a block of weights and (after the first point) the filled scratch, one run of the
  kernel leaves the errors, the codes and the scales of the block's columns on the lanes that hold weights, and the scratch filled.
-/
module

public import proofs.«01_k».proof.Proof.KernelIdeal.Frame
public import proofs.«01_k».proof.Proof.KernelIdeal.Reach

@[expose] public section

noncomputable section

namespace Cert.KernelIdeal.Value

open Cert.KernelIdeal Cert.KernelIdeal.Gen Cert.Mx
open Cert.KernelIdeal.Hand (scM PhiA0_eq defs₀_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

local notation "𝕄" => MT nD τ sig Unit (Elt Ideal) ℕ (UR sig nD τ) ℕ

set_option maxHeartbeats 4000000 in
/-- The body's triple on values, for any continuation. -/
theorem kernelRun (c : Dev nD) (i : grid0.Coords)
    (arg1 : Memref sig .tc .vmem S2x2880x128 .bf16) (harg1 : arg1.IsWhole) (arg2 : Memref sig .tc .vmem S2880x1280 .bf16) (harg2 : arg2.IsWhole)
    (arg3 : Memref sig .tc .vmem S3x90x1280 .f32) (harg3 : arg3.IsWhole) (arg4 : Memref sig .tc .vmem S1440x1280 .i8) (harg4 : arg4.IsWhole)
    (arg5 : Memref sig .tc .vmem S90x1280 .i8) (harg5 : arg5.IsWhole) (arg6 : Memref sig .tc .vmem S30x128x256 .bf16) (harg6 : arg6.IsWhole)
    {A : Fin 2880 → Fin 256 → ℝ} {Wb : Fin 1280 → Fin 2880 → ℝ} (d1 : S2x2880x128.Idx → Elt Ideal .bf16) (d2 : S2880x1280.Idx → Elt Ideal .bf16)
    (hX : IsX d1 A) (hW : IsW (lanes i) d2 Wb) (d6 : S30x128x256.Idx → Elt Ideal .bf16) (h6 : ¬ k0_cond1 i = 1#1 → ∀ y, d6 y = scratch A y)
    (K : PUnit → sProp 𝕄) :
    iprop(owns (c : Thread nD τ) arg1 fullShare d1 ∗ owns (c : Thread nD τ) arg2 fullShare d2
        ∗ (∃ d, owns (c : Thread nD τ) arg3 fullShare d) ∗ (∃ d, owns (c : Thread nD τ) arg4 fullShare d)
        ∗ (∃ d, owns (c : Thread nD τ) arg5 fullShare d) ∗ owns (c : Thread nD τ) arg6 fullShare d6
        ∗ (iprop(owns (c : Thread nD τ) arg1 fullShare d1 ∗ owns (c : Thread nD τ) arg2 fullShare d2
        ∗ (∃ d, ⌜∀ y, lanes i (y 2) → d y = gErr A Wb y⌝ ∗ owns (c : Thread nD τ) arg3 fullShare d)
        ∗ (∃ d, ⌜∀ y, lanes i (y 1) → d y = gCode Wb y⌝ ∗ owns (c : Thread nD τ) arg4 fullShare d)
        ∗ (∃ d, ⌜∀ y, lanes i (y 1) → d y = gScale Wb y⌝ ∗ owns (c : Thread nD τ) arg5 fullShare d)
        ∗ (∃ d, ⌜∀ y, d y = scratch A y⌝ ∗ owns (c : Thread nD τ) arg6 fullShare d)) -∗ K ⟨⟩))
      ⊢ wp frame (wpE (defs₀ (F := Ideal)) Variants.none c none) Set.univ
          (cc0_mxfp4_search i arg1 harg1 arg2 harg2 arg3 harg3 arg4 harg4 arg5 harg5 arg6 harg6) K := by
  simp only [cc0_mxfp4_search_eq_skeleton]; unfold cc0_mxfp4_search_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, Hk⟩
  subst hf1 hf2 hf6
  by_cases hc : k0_cond1 i = 1#1
  · sl_exec
    sl_step
    have e81 : _root_.Cert.KernelIdeal.Value.kernelRun.sl.v81 = k0_pay20 k0_pay18 k0_pay19 := rfl
    have hs := fun y => hfill Variants.none c none i arg1 harg1 arg2 harg2 arg3 harg3 arg4 harg4 arg5 harg5 arg6 harg6 hc
      _root_.Cert.KernelIdeal.Value.kernelRun.sl.v56 _root_.Cert.KernelIdeal.Value.kernelRun.sl.v81 _root_.Cert.KernelIdeal.Value.kernelRun.sl.v109 (cmpi .slt _root_.Cert.KernelIdeal.Value.kernelRun.sl.v81 _root_.Cert.KernelIdeal.Value.kernelRun.sl.v82) (3#32) (remsi _root_.Cert.KernelIdeal.Value.kernelRun.sl.v81 _root_.Cert.KernelIdeal.Value.kernelRun.sl.v84)
      _root_.Cert.KernelIdeal.Value.kernelRun.sl.v103 _root_.Cert.KernelIdeal.Value.kernelRun.sl.v119 _root_.Cert.KernelIdeal.Value.kernelRun.sl.v121 f1 hX f6
      (fun j => term_at' _ e81 j) own_iff y
    have hl := fun w a => after_loops Variants.none c none i arg1 harg1 arg2 harg2 arg3 harg3 arg4 harg4 arg5 harg5 arg6 harg6 w (0#32) f2 _ hW hs f3 f4 f5 a
    iapply Hk
    isplitl [H1]
    · iexists _; isplitr; swap; · iexact H1
      ipureintro; rfl
    isplitl [H2]
    · iexists _; isplitr; swap; · iexact H2
      ipureintro; rfl
    isplitl [H3]
    · iexists _; isplitr; swap
      · iexists _; isplitr; swap; · iexact H3
        ipureintro; rfl
      ipureintro; exact (hl _ _).1
    isplitl [H4]
    · iexists _; isplitr; swap
      · iexists _; isplitr; swap; · iexact H4
        ipureintro; rfl
      ipureintro; exact (hl _ _).2.1
    isplitl [H5]
    · iexists _; isplitr; swap
      · iexists _; isplitr; swap; · iexact H5
        ipureintro; rfl
      ipureintro; exact (hl _ _).2.2
    iexists _; isplitr; swap
    · iexists _; isplitr; swap; · iexact H6
      ipureintro; rfl
    ipureintro; exact hs
  · sl_exec
    sl_step
    have hs := h6 hc
    have hl := fun w a => after_loops Variants.none c none i arg1 harg1 arg2 harg2 arg3 harg3 arg4 harg4 arg5 harg5 arg6 harg6 w (0#32) f2 f6 hW hs f3 f4 f5 a
    iapply Hk
    isplitl [H1]
    · iexists _; isplitr; swap; · iexact H1
      ipureintro; rfl
    isplitl [H2]
    · iexists _; isplitr; swap; · iexact H2
      ipureintro; rfl
    isplitl [H3]
    · iexists _; isplitr; swap
      · iexists _; isplitr; swap; · iexact H3
        ipureintro; rfl
      ipureintro; exact (hl _ _).1
    isplitl [H4]
    · iexists _; isplitr; swap
      · iexists _; isplitr; swap; · iexact H4
        ipureintro; rfl
      ipureintro; exact (hl _ _).2.1
    isplitl [H5]
    · iexists _; isplitr; swap
      · iexists _; isplitr; swap; · iexact H5
        ipureintro; rfl
      ipureintro; exact (hl _ _).2.2
    iexists _; isplitr; swap
    · iexists _; isplitr; swap; · iexact H6
      ipureintro; rfl
    ipureintro; exact hs

end Cert.KernelIdeal.Value

end
-- ==== Proof.KernelIdeal.Value.lean ====
/-
  The run on the values: what the three result arrays hold after the last point, for samples and weights that are real numbers.
-/
module

public import proofs.«01_k».proof.Proof.KernelIdeal.Body
public import Idealize.ShloMosaic.Lib.Pipeline.ValueKit.Geometry

@[expose] public section

noncomputable section

namespace Cert.KernelIdeal.Value

open Cert.KernelIdeal Cert.KernelIdeal.Gen Cert.Mx
open Cert.KernelIdeal.Hand (scM PhiA0_eq defs₀_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

local notation "𝕄" => MT nD τ sig Unit (Elt Ideal) ℕ (UR sig nD τ) ℕ

/-! ## The windows' geometry -/

theorem cond_first : ∀ t : Fin cfg0.N, t.val = 0 → k0_cond1 (grid0.coords t) = 1#1 := by decide +kernel

theorem idx0 : ∀ (t : Fin cfg0.N) (a : Fin 3), win0_0.index t a = 0 := by decide +kernel
theorem idx1 : ∀ (t : Fin cfg0.N), win0_1.index t 0 = 0 ∧ win0_1.index t 1 = (grid0.coords t 0).val := by decide +kernel
theorem idx2 : ∀ (t : Fin cfg0.N), win0_2.index t 0 = 0 ∧ win0_2.index t 1 = 0 ∧ win0_2.index t 2 = (grid0.coords t 0).val := by decide +kernel
theorem idx3 : ∀ (t : Fin cfg0.N), win0_3.index t 0 = 0 ∧ win0_3.index t 1 = (grid0.coords t 0).val := by decide +kernel
theorem idx4 : ∀ (t : Fin cfg0.N), win0_4.index t 0 = 0 ∧ win0_4.index t 1 = (grid0.coords t 0).val := by decide +kernel

theorem xs1 : ∀ i : grid0.Coords, win0_1.xsize i 0 = 2880 ∧ win0_1.xsize i 1 = min 1280 (5760 - 1280 * (i 0).val) := by decide +kernel
theorem xs2 : ∀ i : grid0.Coords, win0_2.xsize i 0 = 3 ∧ win0_2.xsize i 1 = 90 ∧ win0_2.xsize i 2 = min 1280 (5760 - 1280 * (i 0).val) := by decide +kernel
theorem xs3 : ∀ i : grid0.Coords, win0_3.xsize i 0 = 1440 ∧ win0_3.xsize i 1 = min 1280 (5760 - 1280 * (i 0).val) := by decide +kernel
theorem xs4 : ∀ i : grid0.Coords, win0_4.xsize i 0 = 90 ∧ win0_4.xsize i 1 = min 1280 (5760 - 1280 * (i 0).val) := by decide +kernel

theorem emb0 (t : Fin cfg0.N) (j : (win0_0.xblock (grid0.coords t)).Idx) (a : Fin 3) : ((win0_0.blk t).view.emb j a : ℕ) = (j a).val := by
  have h : ((win0_0.blk t).view.emb j a : ℕ) = win0_0.index t a * win0_0.size a + (j a).val := ValueKit.rect_emb_unit_val _ _ _ j a
  rw [h, idx0, Nat.zero_mul, Nat.zero_add]
theorem emb1 (t : Fin cfg0.N) (j : (win0_1.xblock (grid0.coords t)).Idx) (a : Fin 2) :
    ((win0_1.blk t).view.emb j a : ℕ) = win0_1.index t a * win0_1.size a + (j a).val := ValueKit.rect_emb_unit_val _ _ _ j a
theorem emb2 (t : Fin cfg0.N) (j : (win0_2.xblock (grid0.coords t)).Idx) (a : Fin 3) :
    ((win0_2.blk t).view.emb j a : ℕ) = win0_2.index t a * win0_2.size a + (j a).val := ValueKit.rect_emb_unit_val _ _ _ j a
theorem emb3 (t : Fin cfg0.N) (j : (win0_3.xblock (grid0.coords t)).Idx) (a : Fin 2) :
    ((win0_3.blk t).view.emb j a : ℕ) = win0_3.index t a * win0_3.size a + (j a).val := ValueKit.rect_emb_unit_val _ _ _ j a
theorem emb4 (t : Fin cfg0.N) (j : (win0_4.xblock (grid0.coords t)).Idx) (a : Fin 2) :
    ((win0_4.blk t).view.emb j a : ℕ) = win0_4.index t a * win0_4.size a + (j a).val := ValueKit.rect_emb_unit_val _ _ _ j a

/-! ## The results, over the whole arrays -/

variable (m : (ℓ : Loc nD τ sig) → Buf (Elt Ideal) ℓ) (ρ : Dev nD → PrngReg)

def rErr (A : Fin 2880 → Fin 256 → ℝ) (Wt : Fin 5760 → Fin 2880 → ℝ) : S3x90x5760.Idx → Elt Ideal .f32 := fun y => errC A (Wt (y 2)) (y 0) (y 1)
def rCode (Wt : Fin 5760 → Fin 2880 → ℝ) : S1440x5760.Idx → Elt Ideal .i8 := fun y => codeC (Wt (y 1)) (y 0)
def rScale (Wt : Fin 5760 → Fin 2880 → ℝ) : S90x5760.Idx → Elt Ideal .i8 := fun y => scaleC (Wt (y 1)) (y 0)

/-- The columns of point `i`'s block of weights; past the array's end, zeros. -/
def wbAt (Wt : Fin 5760 → Fin 2880 → ℝ) (i : grid0.Coords) : Fin 1280 → Fin 2880 → ℝ :=
  fun l => if h : 1280 * (i 0).val + l.val < 5760 then Wt ⟨_, h⟩ else fun _ => 0

theorem wbAt_of (Wt : Fin 5760 → Fin 2880 → ℝ) (i : grid0.Coords) (l : Fin 1280) (n : Fin 5760) (h : n.val = 1280 * (i 0).val + l.val) :
    wbAt Wt i l = Wt n := by
  unfold wbAt
  rw [dif_pos (h ▸ n.isLt)]
  exact congrArg Wt (Fin.ext h.symm)

/-- The arrays the region finds hold these samples and these weights, every block of them zero or large enough. -/
structure Holds (A : Fin 2880 → Fin 256 → ℝ) (Wt : Fin 5760 → Fin 2880 → ℝ) (c : Dev nD) : Prop where
  x : ∀ (p : Fin 2) (n : Fin 2880) (q : Fin 128), (V m c main_v0 : S2x2880x128.Idx → Elt Ideal .bf16) (ix3 p n q) = ((A n ⟨128 * p.val + q.val, by omega⟩ : ℝ) : EReal)
  w : ∀ (n : Fin 2880) (o : Fin 5760), (V m c main_v1 : S2880x5760.Idx → Elt Ideal .bf16) (ix2 n o) = ((Wt o n : ℝ) : EReal)
  blk : ∀ o b, Blk (colBlk (Wt o) b)

section
variable {m} {A : Fin 2880 → Fin 256 → ℝ} {Wt : Fin 5760 → Fin 2880 → ℝ} {c : Dev nD} (H : Holds m A Wt c) (t : Fin cfg0.N)
include H

theorem isX : IsX (iblk m c 0 t : S2x2880x128.Idx → Elt Ideal .bf16) A := by
  have key : ∀ (p : Fin 2) (n : Fin 2880) (q : Fin 128), (iblk m c 0 t : S2x2880x128.Idx → Elt Ideal .bf16) (ix3 p n q) = ((A n ⟨128 * p.val + q.val, by omega⟩ : ℝ) : EReal) := by
    intro p n q
    refine Eq.trans ?_ (H.x p n q)
    refine congrArg (V m c main_v0 : S2x2880x128.Idx → Elt Ideal .bf16) (funext fun a => Fin.ext ?_)
    exact emb0 t (ix3 p n q) a
  intro n q
  refine ⟨(key 0 n q).trans (congrArg (fun k : Fin 256 => ((A n k : ℝ) : EReal)) (Fin.ext ?_)), (key 1 n q).trans (congrArg (fun k : Fin 256 => ((A n k : ℝ) : EReal)) (Fin.ext ?_))⟩
  · show 128 * 0 + q.val = q.val; omega
  · show 128 * 1 + q.val = 128 + q.val; omega

theorem isW (d : S2880x1280.Idx → Elt Ideal .bf16) :
    IsW (lanes (grid0.coords t)) (win0_1.fill (grid0.coords t) d (iblk m c 1 t)) (wbAt Wt (grid0.coords t)) where
  at' n l hl := by
    unfold lanes at hl
    have hx := xs1 (grid0.coords t)
    have hlt : ∀ a : Fin 2, (ix2 n l a : ℕ) < win0_1.xsize (grid0.coords t) a := by
      intro a; fin_cases a
      · show n.val < win0_1.xsize (grid0.coords t) 0; rw [hx.1]; exact n.isLt
      · show l.val < win0_1.xsize (grid0.coords t) 1; rw [hx.2]; omega
    have e := congrFun (win0_1.cut_fill (grid0.coords t) d (iblk m c 1 t)) (fun a => ⟨(ix2 n l a : ℕ), hlt a⟩)
    rw [wbAt_of Wt _ l ⟨_, hl⟩ rfl, ← H.w n ⟨_, hl⟩]
    refine Eq.trans ?_ (e.trans ?_)
    · exact congrArg (win0_1.fill (grid0.coords t) d (iblk m c 1 t)) (funext fun a => Fin.ext rfl)
    · refine congrArg (V m c main_v1 : S2880x5760.Idx → Elt Ideal .bf16) (funext fun a => Fin.ext ?_)
      refine (emb1 t _ a).trans ?_
      fin_cases a
      · show win0_1.index t 0 * 2880 + n.val = n.val; rw [(idx1 t).1]; omega
      · show win0_1.index t 1 * 1280 + l.val = 1280 * (grid0.coords t 0).val + l.val; rw [(idx1 t).2]; omega
  blk l hl b := by
    unfold lanes at hl
    rw [wbAt_of Wt _ l ⟨_, hl⟩ rfl]
    exact H.blk _ b

end

/-- What the body leaves in an output's buffer is, on the part written back, the result's block. -/
theorem left2 (A : Fin 2880 → Fin 256 → ℝ) (Wt : Fin 5760 → Fin 2880 → ℝ) (t : Fin cfg0.N) (f d : S3x90x1280.Idx → Elt Ideal .f32)
    (hd : ∀ y, lanes (grid0.coords t) (y 2) → d y = gErr A (wbAt Wt (grid0.coords t)) y) :
    win0_2.fill (grid0.coords t) d (win0_2.cut (grid0.coords t) (win0_2.fill (grid0.coords t) f ((win0_2.blk t).view.read (Elt Ideal) (rErr A Wt)))) = d := by
  rw [win0_2.cut_fill]
  refine Eq.trans (congrArg (win0_2.fill (grid0.coords t) d) (funext fun j => ?_)) (win0_2.fill_cut (grid0.coords t) d)
  have hx := xs2 (grid0.coords t)
  have hi := idx2 t
  have h2 : (j 2).val < min 1280 (5760 - 1280 * (grid0.coords t 0).val) := hx.2.2 ▸ (j 2).isLt
  have e := hd (win0_2.xinj (grid0.coords t) j) (by show 1280 * _ + (j 2).val < 5760; omega)
  refine Eq.trans ?_ e.symm
  show errC A (Wt ((win0_2.blk t).view.emb j 2)) ((win0_2.blk t).view.emb j 0) ((win0_2.blk t).view.emb j 1)
    = errC A (wbAt Wt (grid0.coords t) (win0_2.xinj (grid0.coords t) j 2)) (win0_2.xinj (grid0.coords t) j 0) (win0_2.xinj (grid0.coords t) j 1)
  rw [wbAt_of Wt (grid0.coords t) (win0_2.xinj (grid0.coords t) j 2) ((win0_2.blk t).view.emb j 2) (by
    rw [emb2 t j 2, hi.2.2]; show _ * 1280 + (j 2).val = 1280 * _ + (j 2).val; omega)]
  refine congrArg₂ (errC A _) (Fin.ext ?_) (Fin.ext ?_)
  · rw [emb2 t j 0, hi.1]; show 0 * 3 + (j 0).val = (j 0).val; omega
  · rw [emb2 t j 1, hi.2.1]; show 0 * 90 + (j 1).val = (j 1).val; omega

theorem left3 (Wt : Fin 5760 → Fin 2880 → ℝ) (t : Fin cfg0.N) (f d : S1440x1280.Idx → Elt Ideal .i8)
    (hd : ∀ y, lanes (grid0.coords t) (y 1) → d y = gCode (wbAt Wt (grid0.coords t)) y) :
    win0_3.fill (grid0.coords t) d (win0_3.cut (grid0.coords t) (win0_3.fill (grid0.coords t) f ((win0_3.blk t).view.read (Elt Ideal) (rCode Wt)))) = d := by
  rw [win0_3.cut_fill]
  refine Eq.trans (congrArg (win0_3.fill (grid0.coords t) d) (funext fun j => ?_)) (win0_3.fill_cut (grid0.coords t) d)
  have hx := xs3 (grid0.coords t)
  have hi := idx3 t
  have h2 : (j 1).val < min 1280 (5760 - 1280 * (grid0.coords t 0).val) := hx.2 ▸ (j 1).isLt
  have e := hd (win0_3.xinj (grid0.coords t) j) (by show 1280 * _ + (j 1).val < 5760; omega)
  refine Eq.trans ?_ e.symm
  show codeC (Wt ((win0_3.blk t).view.emb j 1)) ((win0_3.blk t).view.emb j 0)
    = codeC (wbAt Wt (grid0.coords t) (win0_3.xinj (grid0.coords t) j 1)) (win0_3.xinj (grid0.coords t) j 0)
  rw [wbAt_of Wt (grid0.coords t) (win0_3.xinj (grid0.coords t) j 1) ((win0_3.blk t).view.emb j 1) (by
    rw [emb3 t j 1, hi.2]; show _ * 1280 + (j 1).val = 1280 * _ + (j 1).val; omega)]
  refine congrArg (codeC _) (Fin.ext ?_)
  rw [emb3 t j 0, hi.1]; show 0 * 1440 + (j 0).val = (j 0).val; omega

theorem left4 (Wt : Fin 5760 → Fin 2880 → ℝ) (t : Fin cfg0.N) (f d : S90x1280.Idx → Elt Ideal .i8)
    (hd : ∀ y, lanes (grid0.coords t) (y 1) → d y = gScale (wbAt Wt (grid0.coords t)) y) :
    win0_4.fill (grid0.coords t) d (win0_4.cut (grid0.coords t) (win0_4.fill (grid0.coords t) f ((win0_4.blk t).view.read (Elt Ideal) (rScale Wt)))) = d := by
  rw [win0_4.cut_fill]
  refine Eq.trans (congrArg (win0_4.fill (grid0.coords t) d) (funext fun j => ?_)) (win0_4.fill_cut (grid0.coords t) d)
  have hx := xs4 (grid0.coords t)
  have hi := idx4 t
  have h2 : (j 1).val < min 1280 (5760 - 1280 * (grid0.coords t 0).val) := hx.2 ▸ (j 1).isLt
  have e := hd (win0_4.xinj (grid0.coords t) j) (by show 1280 * _ + (j 1).val < 5760; omega)
  refine Eq.trans ?_ e.symm
  show scaleC (Wt ((win0_4.blk t).view.emb j 1)) ((win0_4.blk t).view.emb j 0)
    = scaleC (wbAt Wt (grid0.coords t) (win0_4.xinj (grid0.coords t) j 1)) (win0_4.xinj (grid0.coords t) j 0)
  rw [wbAt_of Wt (grid0.coords t) (win0_4.xinj (grid0.coords t) j 1) ((win0_4.blk t).view.emb j 1) (by
    rw [emb4 t j 1, hi.2]; show _ * 1280 + (j 1).val = 1280 * _ + (j 1).val; omega)]
  refine congrArg (scaleC _) (Fin.ext ?_)
  rw [emb4 t j 0, hi.1]; show 0 * 90 + (j 0).val = (j 0).val; omega

/-! ## The proof data -/

variable (A : Dev nD → Fin 2880 → Fin 256 → ℝ) (Wt : Dev nD → Fin 5760 → Fin 2880 → ℝ)

/-- Between the points: the scratch, filled after the first one, and the generator register. -/
def Phi (c : Dev nD) (n : Fin (cfg0.N + 1)) : sProp 𝕄 :=
  iprop((∃ d, ⌜n.val ≠ 0 → ∀ y : S30x128x256.Idx, d y = scratch (A c) y⌝ ∗ owns (c : Thread nD τ) scM fullShare d) ∗ (∃ r, prngReg c r))

/-- The arrays as the region finds them; after the body the inputs' buffers hold their blocks and the outputs' the results' blocks; after
    the first point the scratch is filled. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) ((win0_2.blk t).view.read (Elt Ideal) (rErr (A c) (Wt c)))
    | ⟨3, _⟩ => win0_3.fill (grid0.coords t) (fun _ => (0#8 : BitVec 8)) ((win0_3.blk t).view.read (Elt Ideal) (rCode (Wt c)))
    | ⟨4, _⟩ => win0_4.fill (grid0.coords t) (fun _ => (0#8 : BitVec 8)) ((win0_4.blk t).view.read (Elt Ideal) (rScale (Wt c)))
  Φ n := Phi A c n
  q _ := fullShare
  owed _ := 0

theorem A_eq (c : Dev nD) (w : Fin cfg0.W) : (dats m A Wt 0 c).A w = V m c (Pipeline.arrRef spec0 w) := by dsimp only [dats]

theorem before_1 (c : Dev nD) (t : Fin cfg0.N) (d) :
    (dats m A Wt 0 c).before (1 : Fin 5) t d = win0_1.fill (grid0.coords t) d (iblk m c 1 t) := by
  unfold Dat.before; rw [if_pos (fetch0_1 t)]; rfl

theorem before_0 (c : Dev nD) (t : Fin cfg0.N) (d) : (dats m A Wt 0 c).before (0 : Fin 5) t d = iblk m c 0 t :=
  before0_0_of m (dats m A Wt 0 c) (A_eq m A Wt c 0) (fun _ => rfl) t d

set_option maxHeartbeats 1000000 in
theorem body_obligation (c : Dev nD) (H : Holds m (A c) (Wt c) c) :
    BodyObligationLoose (dats m A Wt 0 c) (defs₀ (F := Ideal)) Variants.none () Set.univ := fun t => by
  rw [bigSep_W0, bigSep_W0, defs₀_row]
  simp only
  rw [show (dats m A Wt 0 c).owesAt () t.succ = (dats m A Wt 0 c).owesAt () t.castSucc from rfl,
    show (dats m A Wt 0 c).Φ t.castSucc = Phi A c t.castSucc from rfl, show (dats m A Wt 0 c).Φ t.succ = Phi A c t.succ from rfl]
  unfold Phi
  unfold bodyAt0
  iintro ⟨⟨⟨%d6, %h6, HS⟩, Hg⟩, HO, ⟨%d0, H0⟩, ⟨%d1, H1⟩, ⟨%d2, H2⟩, ⟨%d3, H3⟩, ⟨%d4, H4⟩⟩
  rw [before_0 m A Wt c t d0, before_1 m A Wt c t d1]
  iapply (kernelRun c (grid0.coords t) _ _ _ _ _ _ _ _ _ _ _ _ (iblk m c 0 t) (win0_1.fill (grid0.coords t) d1 (iblk m c 1 t)) (isX H t) (isW H t d1) d6
    (fun hc => h6 fun h0 => hc (cond_first t h0)) _)
  isplitl [H0]; · iexact H0
  isplitl [H1]; · iexact H1
  isplitl [H2]; · iexists _; iexact H2
  isplitl [H3]; · iexists _; iexact H3
  isplitl [H4]; · iexists _; iexact H4
  isplitl [HS]; · iexact HS
  iintro ⟨H0, H1, ⟨%e2, %he2, H2⟩, ⟨%e3, %he3, H3⟩, ⟨%e4, %he4, H4⟩, ⟨%e6, %he6, HS⟩⟩
  isplitl [HS Hg]
  · isplitl [HS]
    · iexists e6; isplitr
      · ipureintro; exact fun _ => he6
      · iexact HS
    iexact Hg
  isplitl [HO]; · iexact HO
  isplitl [H0]; · iexact H0
  isplitl [H1]
  · iexists d1
    change _ ⊢ owns (c : Thread nD τ) (st0_1 t) fullShare (win0_1.fill (grid0.coords t) d1 (win0_1.cut (grid0.coords t) (win0_1.fill (grid0.coords t) (fun _ => (0 : EReal)) (iblk m c 1 t))))
    rw [win0_1.cut_fill]; try iexact H1
  isplitl [H2]
  · iexists e2
    change _ ⊢ owns (c : Thread nD τ) (st0_2 t) fullShare (win0_2.fill (grid0.coords t) e2 (win0_2.cut (grid0.coords t) (win0_2.fill (grid0.coords t) (fun _ => (0 : EReal)) ((win0_2.blk t).view.read (Elt Ideal) (rErr (A c) (Wt c))))))
    rw [left2 (A c) (Wt c) t _ e2 he2]; try iexact H2
  isplitl [H3]
  · iexists e3
    change _ ⊢ owns (c : Thread nD τ) (st0_3 t) fullShare (win0_3.fill (grid0.coords t) e3 (win0_3.cut (grid0.coords t) (win0_3.fill (grid0.coords t) (fun _ => (0#8 : BitVec 8)) ((win0_3.blk t).view.read (Elt Ideal) (rCode (Wt c))))))
    rw [left3 (Wt c) t _ e3 he3]; try iexact H3
  · iexists e4
    change _ ⊢ owns (c : Thread nD τ) (st0_4 t) fullShare (win0_4.fill (grid0.coords t) e4 (win0_4.cut (grid0.coords t) (win0_4.fill (grid0.coords t) (fun _ => (0#8 : BitVec 8)) ((win0_4.blk t).view.read (Elt Ideal) (rScale (Wt c))))))
    rw [left4 (Wt c) t _ e4 he4]; try iexact H4

set_option backward.isDefEq.respectTransparency.types false in
theorem run_main (H : ∀ c, Holds m (A c) (Wt c) c) :
    θ_run defs (onTc (τ := τ) (main (F := Ideal))) (s₀ m ρ) (fun r => Pipeline.FramePost cfgs (dats m A Wt) 0 (V m) r ∧ r.2.sem = fun _ => 0) :=
  Pipeline.θ_run_frame_track (Q' := _) cfgs (dats m A Wt) (0 : Fin 1) launch0 defs₀ Variants.none m ρ main
    (hbody := fun c => body_obligation m A Wt c (H c)) (hshare := fun c => (dats m A Wt 0 c).share_full fun _ => rfl)
    (howed := fun _ _ => rfl) (V := V m) (hmain := hmain m Variants.none) (hA := A_eq m A Wt)
    (hin := fun c => by
      rw [PhiA0_eq, show (dats m A Wt 0 c).Φ 0 = Phi A c 0 from rfl]
      unfold Phi
      iintro ⟨⟨%d, H⟩, Hg⟩
      isplitl [H]
      · iexists d; isplitr
        · ipureintro; exact fun h => absurd rfl h
        · iexact H
      iexact Hg)
    (hout := fun c => by
      rw [PhiA0_eq, show (dats m A Wt 0 c).Φ (Fin.last (cfgs 0).N) = Phi A c (Fin.last cfg0.N) from rfl]
      unfold Phi
      iintro ⟨⟨%d, -, H⟩, Hg⟩
      isplitl [H]
      · iexists d; iexact H
      iexact Hg)

/-! ## The result arrays -/

theorem res2 (c : Dev nD) : (dats m A Wt 0 c).arrAt 2 cfg0.N = rErr (A c) (Wt c) := by
  refine (dats m A Wt 0 c).arrAt_eq_of_covers 2 (rErr (A c) (Wt c)) (by decide +kernel) fun t hf y => ?_
  exact congrFun (win0_2.cut_fill (grid0.coords t) (fun _ => (0 : EReal)) ((win0_2.blk t).view.read (Elt Ideal) (rErr (A c) (Wt c)))) y

theorem res3 (c : Dev nD) : (dats m A Wt 0 c).arrAt 3 cfg0.N = rCode (Wt c) := by
  refine (dats m A Wt 0 c).arrAt_eq_of_covers 3 (rCode (Wt c)) (by decide +kernel) fun t hf y => ?_
  exact congrFun (win0_3.cut_fill (grid0.coords t) (fun _ => (0#8 : BitVec 8)) ((win0_3.blk t).view.read (Elt Ideal) (rCode (Wt c)))) y

theorem res4 (c : Dev nD) : (dats m A Wt 0 c).arrAt 4 cfg0.N = rScale (Wt c) := by
  refine (dats m A Wt 0 c).arrAt_eq_of_covers 4 (rScale (Wt c)) (by decide +kernel) fun t hf y => ?_
  exact congrFun (win0_4.cut_fill (grid0.coords t) (fun _ => (0#8 : BitVec 8)) ((win0_4.blk t).view.read (Elt Ideal) (rScale (Wt c)))) y

/-- The kernel's run ends with the results of these samples and weights. -/
theorem run_value (H : ∀ c, Holds m (A c) (Wt c) c) :
    θ_run defs (onTc (τ := τ) (main (F := Ideal))) ⟨m, fun _ => 0, ρ⟩ (fun r => ∀ c : Dev nD,
      r.2.mem ((c.tc : Thread nD τ).loc main_v2_0) = rErr (A c) (Wt c)
      ∧ r.2.mem ((c.tc : Thread nD τ).loc main_v2_1) = rCode (Wt c)
      ∧ r.2.mem ((c.tc : Thread nD τ).loc main_v2_2) = rScale (Wt c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 2).trans (res2 m A Wt c), ((h.1 c).1 3).trans (res3 m A Wt c), ((h.1 c).1 4).trans (res4 m A Wt c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩) (run_main m ρ A Wt H)

end Cert.KernelIdeal.Value

end
-- ==== Proof.Algebra.lean ====
/-
  The equality of the kernel's results and the reference's, on arguments the stated condition holds of, and the reference's frame.
-/
module

public import proofs.«01_k».proof.Defs
public import proofs.«01_k».proof.Proof.Given
public import proofs.«01_k».proof.Proof.KernelIdeal.Value
public import proofs.«01_k».proof.Proof.Gen.ReferenceIdeal.Run

@[expose] public section

noncomputable section

namespace Cert.Proof

open Idealize.ShloMosaic Idealize.SL.Sem Idealize.ShloMosaic.TcCoe Cert.Mx

/-! ## The kernel's host transposes -/

section Kernel

open Cert.KernelIdeal Cert.KernelIdeal.Gen

variable (m : (ℓ : Loc nD τ sig) → Buf (Elt Ideal) ℓ) (c : Dev nD)

theorem V_v0 : V m c main_v0 = transpose S2x2880x128 [0, 2, 1] (m ((c.tc : Thread nD τ).loc main_arg0)) transposes_S2x128x2880_S2x2880x128_0_2_1 := by
  unfold V
  simp only [hostOps0]
  after_results_simp

theorem V_v1 : V m c main_v1 = transpose S2880x5760 [1, 0] (m ((c.tc : Thread nD τ).loc main_arg1)) transposes_S5760x2880_S2880x5760_1_0 := by
  unfold V
  simp only [hostOps0]
  after_results_simp

/-- The region finds the samples and the weights of the arguments. -/
theorem holds_given {A : Fin 2880 → Fin 256 → ℝ} {Wt : Fin 5760 → Fin 2880 → ℝ} (h0 : IsAt (m ((c.tc : Thread nD τ).loc main_arg0)) A)
    (h1 : IsWt (m ((c.tc : Thread nD τ).loc main_arg1)) Wt) (hB : ∀ o b, Blk (colBlk (Wt o) b)) : Value.Holds m A Wt c where
  x p n q := by
    rw [V_v0]
    refine (transpose_apply _ _ _ _ (ix3 p q n) (fun b => match b with | ⟨0, _⟩ => rfl | ⟨1, _⟩ => rfl | ⟨2, _⟩ => rfl)).trans ?_
    exact h0 p q n
  w n o := by
    rw [V_v1]
    refine (transpose_apply _ _ _ _ (ix2 o n) (fun b => match b with | ⟨0, _⟩ => rfl | ⟨1, _⟩ => rfl)).trans ?_
    exact h1 o n
  blk := hB

end Kernel

/-! ## The reference -/

section Reference

open Cert.ReferenceIdeal Cert.ReferenceIdeal.Gen

/-- The reference runs and leaves its arguments as they were; it declares no semaphore. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2.2.2, sem_eq_zero_of_no_sems (by decide) r.2⟩) (Value.run (F := Ideal) m ρ)

/-- The reference's results, of samples and weights that are real numbers. -/
theorem run_reference_value (m : (ℓ : Loc nD τ sig) → Buf (Elt Ideal) ℓ) (ρ : Dev nD → PrngReg)
    (A : Dev nD → Fin 2880 → Fin 256 → ℝ) (Wt : Dev nD → Fin 5760 → Fin 2880 → ℝ) (h0 : ∀ c : Dev nD, IsAt (m ((c.tc : Thread nD τ).loc main_arg0)) (A c))
    (h1 : ∀ c : Dev nD, IsWt (m ((c.tc : Thread nD τ).loc main_arg1)) (Wt c)) (hB : ∀ c o b, Blk (colBlk (Wt c o) b)) :
    θ_run (defs (F := Ideal)) (onTc (τ := τ) (main (F := Ideal))) ⟨m, fun _ => 0, ρ⟩ (fun r => ∀ c : Dev nD,
      r.2.mem ((c.tc : Thread nD τ).loc main_v116) = (fun y => errC (A c) (Wt c (y 2)) (y 0) (y 1) : S3x90x5760.Idx → EReal)
      ∧ r.2.mem ((c.tc : Thread nD τ).loc main_v117) = (fun y => codeC (Wt c (y 1)) (y 0) : S1440x5760.Idx → BitVec 8)
      ∧ r.2.mem ((c.tc : Thread nD τ).loc main_v118) = (fun y => scaleC (Wt c (y 1)) (y 0) : S90x5760.Idx → BitVec 8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨
    (h c).1.trans ((Read.val_main_v116_eq (StableHlo.launchContents m c)).trans (ref_err (h0 c) (h1 c) (hB c))),
    (h c).2.1.trans ((Read.val_main_v117_eq (StableHlo.launchContents m c)).trans (ref_code (h1 c) (hB c))),
    (h c).2.2.1.trans ((Read.val_main_v118_eq (StableHlo.launchContents m c)).trans (ref_scale (h1 c) (hB c))),
    (h c).2.2.2⟩) (Value.run (F := Ideal) m ρ)

end Reference

/-! ## The claim -/

theorem algebra : Cert.algebraic_KernelIdeal_ReferenceIdeal_pre_finite_blocks := by
  intro m g m' g' hp hagree
  let A := fun c : Dev Cert.KernelIdeal.nD => samples (m ((c.tc : Thread Cert.KernelIdeal.nD Cert.KernelIdeal.τ).loc Cert.KernelIdeal.main_arg0))
  let Wt := fun c : Dev Cert.KernelIdeal.nD => weights (m ((c.tc : Thread Cert.KernelIdeal.nD Cert.KernelIdeal.τ).loc Cert.KernelIdeal.main_arg1))
  have h0 : ∀ c : Dev Cert.KernelIdeal.nD, IsAt (m ((c.tc : Thread Cert.KernelIdeal.nD Cert.KernelIdeal.τ).loc Cert.KernelIdeal.main_arg0)) (A c) := fun c => isAt_given (hp c).1
  have h1 : ∀ c : Dev Cert.KernelIdeal.nD, IsWt (m ((c.tc : Thread Cert.KernelIdeal.nD Cert.KernelIdeal.τ).loc Cert.KernelIdeal.main_arg1)) (Wt c) := fun c => isWt_given (hp c).2.1
  have hB : ∀ (c : Dev Cert.KernelIdeal.nD) o b, Blk (colBlk (Wt c o) b) := fun c o b => blk_given (hp c).2.1 (hp c).2.2 o b
  exact ⟨fun c => Cert.KernelIdeal.Value.rErr (A c) (Wt c), fun c => Cert.KernelIdeal.Value.rCode (Wt c), fun c => Cert.KernelIdeal.Value.rScale (Wt c),
    Cert.KernelIdeal.Value.run_value m g A Wt fun c => holds_given m c (h0 c) (h1 c) (hB c),
    run_reference_value m' g' A Wt (fun c => (hagree c).1 ▸ h0 c) (fun c => (hagree c).2 ▸ h1 c) hB⟩

end Cert.Proof

end
-- ==== Proof.lean ====
/-
  The proof of `Cert.Claim`: the facts of the programs and of the stated condition, the frames, and the equality of the results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Kernel.Frame
public import proofs.«01_k».proof.Proof.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_blocks
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_blocks.Gen.facts,
  fun m g _ => Cert.Kernel.Hand.run_frame m g, fun m g _ => Cert.KernelIdeal.Hand.run_frame m g, fun m g _ => Cert.KernelIdeal.Hand.run_frame m g,
  fun m g _ => run_reference m g, fun m g _ => run_reference m g, trivial, algebra⟩

end Cert.Proof

end
